-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_within_capacity_KernelIdeal [hPre_within_capacity_KernelIdeal : Cert.Pre_within_capacity_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_within_capacity_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_within_capacity_ReferenceIdeal [hPre_within_capacity_ReferenceIdeal : Cert.Pre_within_capacity_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_within_capacity_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_within_capacity_KernelIdeal [hKernelIdeal : Cert.KernelIdeal.Facts] [hPre_within_capacity_KernelIdeal : Cert.Pre_within_capacity_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within_capacity_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_within_capacity_ReferenceIdeal [hReferenceIdeal : Cert.ReferenceIdeal.Facts] [hPre_within_capacity_ReferenceIdeal : Cert.Pre_within_capacity_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_within_capacity_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_within_capacity_KernelIdeal [hKernelIdeal : Cert.KernelIdeal.Facts] [hReferenceIdeal : Cert.ReferenceIdeal.Facts] [hPre_within_capacity_KernelIdeal : Cert.Pre_within_capacity_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_within_capacity_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![16, 128, 256]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v46) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_within_capacity_KernelIdeal : Cert.Pre_within_capacity_KernelIdeal.Facts) (hPre_within_capacity_ReferenceIdeal : Cert.Pre_within_capacity_ReferenceIdeal.Facts),
    quiescent_Kernel (hKernel := hKernel)
    ∧ quiescent_KernelIdeal (hKernelIdeal := hKernelIdeal)
    ∧ quiescent_KernelIdeal_pre_within_capacity_KernelIdeal (hKernelIdeal := hKernelIdeal) (hPre_within_capacity_KernelIdeal := hPre_within_capacity_KernelIdeal)
    ∧ quiescent_ReferenceIdeal (hReferenceIdeal := hReferenceIdeal)
    ∧ quiescent_ReferenceIdeal_pre_within_capacity_ReferenceIdeal (hReferenceIdeal := hReferenceIdeal) (hPre_within_capacity_ReferenceIdeal := hPre_within_capacity_ReferenceIdeal)
    ∧ preserves_Kernel_KernelIdeal
    ∧ algebraic_KernelIdeal_ReferenceIdeal_pre_within_capacity_KernelIdeal (hKernelIdeal := hKernelIdeal) (hReferenceIdeal := hReferenceIdeal) (hPre_within_capacity_KernelIdeal := hPre_within_capacity_KernelIdeal)
-- ==== Pre_within_capacity_KernelIdeal.lean ====
abbrev S256x128 : Shape := ⟨2, ![256, 128]⟩
abbrev S128x16 : Shape := ⟨2, ![128, 16]⟩
abbrev S256x2 : Shape := ⟨2, ![256, 2]⟩
abbrev S2x128x256 : Shape := ⟨3, ![2, 128, 256]⟩
abbrev S_ : Shape := ⟨0, ![]⟩
abbrev S8 : Shape := ⟨1, ![8]⟩
abbrev S1x8 : Shape := ⟨2, ![1, 8]⟩
abbrev S256x1 : Shape := ⟨2, ![256, 1]⟩
abbrev S256x8 : Shape := ⟨2, ![256, 8]⟩

class Facts : Prop where
  bitsLt_bf16_f32 : FTy.bits .bf16 < FTy.bits .f32
  bcast_S_S256x128 : S_.BroadcastsInDim S256x128 (![] : Fin 0 → Fin S256x128.rank)
  reducesTo_S256x128_S_d0_1 : S256x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S256x2 : S_.BroadcastsInDim S256x2 (![] : Fin 0 → Fin S256x2.rank)
  reducesTo_S256x2_S_d0_1 : S256x2.ReducesTo [0, 1] S_
  bcast_S8_S1x8_1 : S8.BroadcastsInDim S1x8 (![1] : Fin 1 → Fin S1x8.rank)
  slices_S256x2_S256x1_0_0 : S256x2.Slices ![0, 0] S256x1
  bcast_S256x1_S256x8_0_1 : S256x1.BroadcastsInDim S256x8 (![0, 1] : Fin 2 → Fin S256x8.rank)
  bcast_S1x8_S256x8_0_1 : S1x8.BroadcastsInDim S256x8 (![0, 1] : Fin 2 → Fin S256x8.rank)
  slices_S256x2_S256x1_0_1 : S256x2.Slices ![0, 1] S256x1
  natLt_1_32 : 1 < 32
  reducesTo_S256x8_S8_d0 : S256x8.ReducesTo [0] S8
  bcast_S_S8 : S_.BroadcastsInDim S8 (![] : Fin 0 → Fin S8.rank)
  reducesTo_S8_S_d0 : S8.ReducesTo [0] S_

variable [Facts]

def fn_part1 {F : FTy → Type} [FloatOps F] (main_arg2 : IVec S256x2 32) (main_v10 : IVec S_ 1) (main_v16 : IVec S_ 1) : IVec S_ 1 :=
  let main_v17 : IVec S8 32 := iotaInDim S8 32 0
  let main_v18 : IVec S1x8 32 := broadcastInDim S1x8 ![1] bcast_S8_S1x8_1 main_v17
  let main_c_5 : IVec S_ 32 := constantI S_ 32 2#32
  let main_v19 : IVec S256x2 32 := broadcastInDim S256x2 ![] bcast_S_S256x2 main_c_5
  let main_v20 : IVec S256x2 32 := Host.divsi main_arg2 main_v19
  let main_v21 : IVec S256x1 32 := (extractStridedSlice S256x1 ![0, 0] · slices_S256x2_S256x1_0_0) main_v20
  let main_v22 : IVec S256x8 32 := broadcastInDim S256x8 ![0, 1] bcast_S256x1_S256x8_0_1 main_v21
  let main_v23 : IVec S256x8 32 := broadcastInDim S256x8 ![0, 1] bcast_S1x8_S256x8_0_1 main_v18
  let main_v24 : IVec S256x8 1 := cmpi .eq main_v22 main_v23
  let main_v25 : IVec S256x1 32 := (extractStridedSlice S256x1 ![0, 1] · slices_S256x2_S256x1_0_1) main_v20
  let main_v26 : IVec S256x8 32 := broadcastInDim S256x8 ![0, 1] bcast_S256x1_S256x8_0_1 main_v25
  let main_v27 : IVec S256x8 32 := broadcastInDim S256x8 ![0, 1] bcast_S1x8_S256x8_0_1 main_v18
  let main_v28 : IVec S256x8 1 := cmpi .eq main_v26 main_v27
  let main_v29 : IVec S256x8 1 := ori main_v24 main_v28
  let main_v30 : IVec S256x8 32 := (extui 32 · natLt_1_32) main_v29
  let main_c_6 : IVec S_ 32 := constantI S_ 32 0#32
  let main_v31 : IVec S8 32 := (fun x v => Host.reduce IntOp.addi x v reducesTo_S256x8_S8_d0 h_S_) main_v30 main_c_6
  let main_v32 : IVec S_ 1 := andi main_v10 main_v16
  let main_c_7 : IVec S_ 32 := constantI S_ 32 96#32
  let main_v33 : IVec S8 32 := broadcastInDim S8 ![] bcast_S_S8 main_c_7
  let main_v34 : IVec S8 1 := cmpi .sle main_v31 main_v33
  let main_c_8 : IVec S_ 1 := constantI S_ 1 1#1
  let main_v35 : IVec S_ 1 := (fun x v => Host.reduce IntOp.andi x v reducesTo_S8_S_d0 h_S_) main_v34 main_c_8
  let main_v36 : IVec S_ 1 := andi main_v32 main_v35
  main_v36

def fn {F : FTy → Type} [FloatOps F] (main_arg0 : FVec F S256x128 .bf16) (main_arg1 : FVec F S128x16 .bf16) (main_arg2 : IVec S256x2 32) (main_arg3 : FVec F S2x128x256 .bf16) : IVec S_ 1 :=
  let main_v0 : FVec F S256x128 .f32 := (extf .f32 · bitsLt_bf16_f32) main_arg0
  let main_v1 : FVec F S256x128 .f32 := Host.absf main_v0
  let main_cst : FVec F S_ .f32 := constant S_ .f32 0x7F800000#32
  let main_v2 : FVec F S256x128 .f32 := broadcastInDim S256x128 ![] bcast_S_S256x128 main_cst
  let main_v3 : IVec S256x128 1 := cmpf .olt main_v1 main_v2
  let main_c : IVec S_ 1 := constantI S_ 1 1#1
  let main_v4 : IVec S_ 1 := (fun x v => Host.reduce IntOp.andi x v reducesTo_S256x128_S_d0_1 h_S_) main_v3 main_c
  let main_v5 : FVec F S128x16 .f32 := (extf .f32 · bitsLt_bf16_f32) main_arg1
  let main_v6 : FVec F S128x16 .f32 := Host.absf main_v5
  let main_cst_0 : FVec F S_ .f32 := constant S_ .f32 0x7F800000#32
  let main_v7 : FVec F S128x16 .f32 := broadcastInDim S128x16 ![] bcast_S_S128x16 main_cst_0
  let main_v8 : IVec S128x16 1 := cmpf .olt main_v6 main_v7
  let main_c_1 : IVec S_ 1 := constantI S_ 1 1#1
  let main_v9 : IVec S_ 1 := (fun x v => Host.reduce IntOp.andi x v reducesTo_S128x16_S_d0_1 h_S_) main_v8 main_c_1
  let main_v10 : IVec S_ 1 := andi main_v4 main_v9
  let main_c_2 : IVec S_ 32 := constantI S_ 32 0#32
  let main_v11 : IVec S256x2 32 := broadcastInDim S256x2 ![] bcast_S_S256x2 main_c_2
  let main_v12 : IVec S256x2 1 := cmpi .sge main_arg2 main_v11
  let main_c_3 : IVec S_ 32 := constantI S_ 32 16#32
  let main_v13 : IVec S256x2 32 := broadcastInDim S256x2 ![] bcast_S_S256x2 main_c_3
  let main_v14 : IVec S256x2 1 := cmpi .slt main_arg2 main_v13
  let main_v15 : IVec S256x2 1 := andi main_v12 main_v14
  let main_c_4 : IVec S_ 1 := constantI S_ 1 1#1
  let main_v16 : IVec S_ 1 := (fun x v => Host.reduce IntOp.andi x v reducesTo_S256x2_S_d0_1 h_S_) main_v15 main_c_4
  fn_part1 (F := F) main_arg2 main_v10 main_v16
-- ==== Pre_within_capacity_ReferenceIdeal.lean ====
abbrev S256x128 : Shape := ⟨2, ![256, 128]⟩
abbrev S128x16 : Shape := ⟨2, ![128, 16]⟩
abbrev S256x2 : Shape := ⟨2, ![256, 2]⟩
abbrev S16x128x256 : Shape := ⟨3, ![16, 128, 256]⟩
abbrev S_ : Shape := ⟨0, ![]⟩
abbrev S8 : Shape := ⟨1, ![8]⟩
abbrev S1x8 : Shape := ⟨2, ![1, 8]⟩
abbrev S256x1 : Shape := ⟨2, ![256, 1]⟩
abbrev S256x8 : Shape := ⟨2, ![256, 8]⟩

class Facts : Prop where
  bitsLt_bf16_f32 : FTy.bits .bf16 < FTy.bits .f32
  bcast_S_S256x128 : S_.BroadcastsInDim S256x128 (![] : Fin 0 → Fin S256x128.rank)
  reducesTo_S256x128_S_d0_1 : S256x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S256x2 : S_.BroadcastsInDim S256x2 (![] : Fin 0 → Fin S256x2.rank)
  reducesTo_S256x2_S_d0_1 : S256x2.ReducesTo [0, 1] S_
  bcast_S8_S1x8_1 : S8.BroadcastsInDim S1x8 (![1] : Fin 1 → Fin S1x8.rank)
  slices_S256x2_S256x1_0_0 : S256x2.Slices ![0, 0] S256x1
  bcast_S256x1_S256x8_0_1 : S256x1.BroadcastsInDim S256x8 (![0, 1] : Fin 2 → Fin S256x8.rank)
  bcast_S1x8_S256x8_0_1 : S1x8.BroadcastsInDim S256x8 (![0, 1] : Fin 2 → Fin S256x8.rank)
  slices_S256x2_S256x1_0_1 : S256x2.Slices ![0, 1] S256x1
  natLt_1_32 : 1 < 32
  reducesTo_S256x8_S8_d0 : S256x8.ReducesTo [0] S8
  bcast_S_S8 : S_.BroadcastsInDim S8 (![] : Fin 0 → Fin S8.rank)
  reducesTo_S8_S_d0 : S8.ReducesTo [0] S_

variable [Facts]

def fn_part1 {F : FTy → Type} [FloatOps F] (main_arg2 : IVec S256x2 32) (main_v10 : IVec S_ 1) (main_v16 : IVec S_ 1) : IVec S_ 1 :=
  let main_v17 : IVec S8 32 := iotaInDim S8 32 0
  let main_v18 : IVec S1x8 32 := broadcastInDim S1x8 ![1] bcast_S8_S1x8_1 main_v17
  let main_c_5 : IVec S_ 32 := constantI S_ 32 2#32
  let main_v19 : IVec S256x2 32 := broadcastInDim S256x2 ![] bcast_S_S256x2 main_c_5
  let main_v20 : IVec S256x2 32 := Host.divsi main_arg2 main_v19
  let main_v21 : IVec S256x1 32 := (extractStridedSlice S256x1 ![0, 0] · slices_S256x2_S256x1_0_0) main_v20
  let main_v22 : IVec S256x8 32 := broadcastInDim S256x8 ![0, 1] bcast_S256x1_S256x8_0_1 main_v21
  let main_v23 : IVec S256x8 32 := broadcastInDim S256x8 ![0, 1] bcast_S1x8_S256x8_0_1 main_v18
  let main_v24 : IVec S256x8 1 := cmpi .eq main_v22 main_v23
  let main_v25 : IVec S256x1 32 := (extractStridedSlice S256x1 ![0, 1] · slices_S256x2_S256x1_0_1) main_v20
  let main_v26 : IVec S256x8 32 := broadcastInDim S256x8 ![0, 1] bcast_S256x1_S256x8_0_1 main_v25
  let main_v27 : IVec S256x8 32 := broadcastInDim S256x8 ![0, 1] bcast_S1x8_S256x8_0_1 main_v18
  let main_v28 : IVec S256x8 1 := cmpi .eq main_v26 main_v27
  let main_v29 : IVec S256x8 1 := ori main_v24 main_v28
  let main_v30 : IVec S256x8 32 := (extui 32 · natLt_1_32) main_v29
  let main_c_6 : IVec S_ 32 := constantI S_ 32 0#32
  let main_v31 : IVec S8 32 := (fun x v => Host.reduce IntOp.addi x v reducesTo_S256x8_S8_d0 h_S_) main_v30 main_c_6
  let main_v32 : IVec S_ 1 := andi main_v10 main_v16
  let main_c_7 : IVec S_ 32 := constantI S_ 32 96#32
  let main_v33 : IVec S8 32 := broadcastInDim S8 ![] bcast_S_S8 main_c_7
  let main_v34 : IVec S8 1 := cmpi .sle main_v31 main_v33
  let main_c_8 : IVec S_ 1 := constantI S_ 1 1#1
  let main_v35 : IVec S_ 1 := (fun x v => Host.reduce IntOp.andi x v reducesTo_S8_S_d0 h_S_) main_v34 main_c_8
  let main_v36 : IVec S_ 1 := andi main_v32 main_v35
  main_v36

def fn {F : FTy → Type} [FloatOps F] (main_arg0 : FVec F S256x128 .bf16) (main_arg1 : FVec F S128x16 .bf16) (main_arg2 : IVec S256x2 32) (main_arg3 : FVec F S16x128x256 .bf16) : IVec S_ 1 :=
  let main_v0 : FVec F S256x128 .f32 := (extf .f32 · bitsLt_bf16_f32) main_arg0
  let main_v1 : FVec F S256x128 .f32 := Host.absf main_v0
  let main_cst : FVec F S_ .f32 := constant S_ .f32 0x7F800000#32
  let main_v2 : FVec F S256x128 .f32 := broadcastInDim S256x128 ![] bcast_S_S256x128 main_cst
  let main_v3 : IVec S256x128 1 := cmpf .olt main_v1 main_v2
  let main_c : IVec S_ 1 := constantI S_ 1 1#1
  let main_v4 : IVec S_ 1 := (fun x v => Host.reduce IntOp.andi x v reducesTo_S256x128_S_d0_1 h_S_) main_v3 main_c
  let main_v5 : FVec F S128x16 .f32 := (extf .f32 · bitsLt_bf16_f32) main_arg1
  let main_v6 : FVec F S128x16 .f32 := Host.absf main_v5
  let main_cst_0 : FVec F S_ .f32 := constant S_ .f32 0x7F800000#32
  let main_v7 : FVec F S128x16 .f32 := broadcastInDim S128x16 ![] bcast_S_S128x16 main_cst_0
  let main_v8 : IVec S128x16 1 := cmpf .olt main_v6 main_v7
  let main_c_1 : IVec S_ 1 := constantI S_ 1 1#1
  let main_v9 : IVec S_ 1 := (fun x v => Host.reduce IntOp.andi x v reducesTo_S128x16_S_d0_1 h_S_) main_v8 main_c_1
  let main_v10 : IVec S_ 1 := andi main_v4 main_v9
  let main_c_2 : IVec S_ 32 := constantI S_ 32 0#32
  let main_v11 : IVec S256x2 32 := broadcastInDim S256x2 ![] bcast_S_S256x2 main_c_2
  let main_v12 : IVec S256x2 1 := cmpi .sge main_arg2 main_v11
  let main_c_3 : IVec S_ 32 := constantI S_ 32 16#32
  let main_v13 : IVec S256x2 32 := broadcastInDim S256x2 ![] bcast_S_S256x2 main_c_3
  let main_v14 : IVec S256x2 1 := cmpi .slt main_arg2 main_v13
  let main_v15 : IVec S256x2 1 := andi main_v12 main_v14
  let main_c_4 : IVec S_ 1 := constantI S_ 1 1#1
  let main_v16 : IVec S_ 1 := (fun x v => Host.reduce IntOp.andi x v reducesTo_S256x2_S_d0_1 h_S_) main_v15 main_c_4
  fn_part1 (F := F) main_arg2 main_v10 main_v16
-- ==== Kernel.lean ====
abbrev S256x128 : Shape := ⟨2, ![256, 128]⟩
abbrev S128x16 : Shape := ⟨2, ![128, 16]⟩
abbrev S256x2 : Shape := ⟨2, ![256, 2]⟩
abbrev S2x128x256 : Shape := ⟨3, ![2, 128, 256]⟩
abbrev S256x256 : Shape := ⟨2, ![256, 256]⟩
abbrev S112x256 : Shape := ⟨2, ![112, 256]⟩
abbrev S8x112x256 : Shape := ⟨3, ![8, 112, 256]⟩
abbrev S8 : Shape := ⟨1, ![8]⟩
abbrev S_ : Shape := ⟨0, ![]⟩
abbrev S256x16 : Shape := ⟨2, ![256, 16]⟩
abbrev S256 : Shape := ⟨1, ![256]⟩
abbrev S256x1 : Shape := ⟨2, ![256, 1]⟩
abbrev S1x256 : Shape := ⟨2, ![1, 256]⟩
abbrev S96x256 : Shape := ⟨2, ![96, 256]⟩
abbrev S2x256 : Shape := ⟨2, ![2, 256]⟩
abbrev S1 : Shape := ⟨1, ![1]⟩
abbrev S1x112x256 : Shape := ⟨3, ![1, 112, 256]⟩
abbrev S1x1x256 : Shape := ⟨3, ![1, 1, 256]⟩
abbrev S256x96 : Shape := ⟨2, ![256, 96]⟩
abbrev S1x96x256 : Shape := ⟨3, ![1, 96, 256]⟩

abbrev nBuf : Space → Nat
  | .hbm => 5
  | .vmem => 7
  | .smem => 0
  | _ => 0

abbrev bufTy : (tb : Table) → Fin (tcTables nBuf tb) → BufTy
  | .hbm, ⟨0, _⟩ => ⟨S256x128, .bf16⟩
  | .hbm, ⟨1, _⟩ => ⟨S128x16, .bf16⟩
  | .hbm, ⟨2, _⟩ => ⟨S256x2, .i32⟩
  | .hbm, ⟨3, _⟩ => ⟨S2x128x256, .bf16⟩
  | .hbm, ⟨4, _⟩ => ⟨S256x256, .bf16⟩
  | .local _ .vmem, ⟨0, _⟩ => ⟨S256x128, .bf16⟩
  | .local _ .vmem, ⟨1, _⟩ => ⟨S128x16, .bf16⟩
  | .local _ .vmem, ⟨2, _⟩ => ⟨S256x2, .i32⟩
  | .local _ .vmem, ⟨3, _⟩ => ⟨S2x128x256, .bf16⟩
  | .local _ .vmem, ⟨4, _⟩ => ⟨S256x256, .bf16⟩
  | .local _ .vmem, ⟨5, _⟩ => ⟨S112x256, .bf16⟩
  | .local _ .vmem, ⟨6, _⟩ => ⟨S8x112x256, .bf16⟩
  | _, _ => ⟨S256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 32 := Scalar.xori v2 c4_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v16 : BitVec 32 := Scalar.xori v2 c5_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v19 : BitVec 32 := Scalar.xori v2 c6_i32
  let c1_i32_16 : BitVec 32 := 1#32
  let v20 : BitVec 32 := Scalar.muli v19 c1_i32_16
  let v21 : BitVec 32 := Scalar.addi c0_i32_17 v20
  v21.toNat
def k0_dev7 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v22 : BitVec 32 := Scalar.xori v2 c7_i32
  let c1_i32_19 : BitVec 32 := 1#32
  let v23 : BitVec 32 := Scalar.muli v22 c1_i32_19
  let v24 : BitVec 32 := Scalar.addi c0_i32_20 v23
  v24.toNat
def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_62 : BitVec 32 := 0#32
  let c0_i32_63 : BitVec 32 := 0#32
  ![v2.toNat, 0, 0]
def k0_dev8 (d0 : Dev nD) : Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_58 : BitVec 32 := 1#32
  let v140 : BitVec 32 := Scalar.xori v2 c1_i32_58
  let c1_i32_60 : BitVec 32 := 1#32
  let v141 : BitVec 32 := Scalar.muli v140 c1_i32_60
  let v142 : BitVec 32 := Scalar.addi c0_i32_61 v141
  v142.toNat
def k0_dev9 (d0 : Dev nD) : Nat :=
  let c0_i32_67 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_64 : BitVec 32 := 3#32
  let v149 : BitVec 32 := Scalar.xori v2 c3_i32_64
  let c1_i32_66 : BitVec 32 := 1#32
  let v150 : BitVec 32 := Scalar.muli v149 c1_i32_66
  let v151 : BitVec 32 := Scalar.addi c0_i32_67 v150
  v151.toNat
def k0_dev10 (d0 : Dev nD) : Nat :=
  let c0_i32_73 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_70 : BitVec 32 := 4#32
  let v158 : BitVec 32 := Scalar.xori v2 c4_i32_70
  let c1_i32_72 : BitVec 32 := 1#32
  let v159 : BitVec 32 := Scalar.muli v158 c1_i32_72
  let v160 : BitVec 32 := Scalar.addi c0_i32_73 v159
  v160.toNat
def k0_dev11 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_76 : BitVec 32 := 2#32
  let v167 : BitVec 32 := Scalar.xori v2 c2_i32_76
  let c1_i32_78 : BitVec 32 := 1#32
  let v168 : BitVec 32 := Scalar.muli v167 c1_i32_78
  let v169 : BitVec 32 := Scalar.addi c0_i32_79 v168
  v169.toNat
def k0_dev12 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_82 : BitVec 32 := 5#32
  let v176 : BitVec 32 := Scalar.xori v2 c5_i32_82
  let c1_i32_84 : BitVec 32 := 1#32
  let v177 : BitVec 32 := Scalar.muli v176 c1_i32_84
  let v178 : BitVec 32 := Scalar.addi c0_i32_85 v177
  v178.toNat
def k0_dev13 (d0 : Dev nD) : Nat :=
  let c0_i32_91 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_88 : BitVec 32 := 7#32
  let v185 : BitVec 32 := Scalar.xori v2 c7_i32_88
  let c1_i32_90 : BitVec 32 := 1#32
  let v186 : BitVec 32 := Scalar.muli v185 c1_i32_90
  let v187 : BitVec 32 := Scalar.addi c0_i32_91 v186
  v187.toNat
def k0_dev14 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_94 : BitVec 32 := 6#32
  let v194 : BitVec 32 := Scalar.xori v2 c6_i32_94
  let c1_i32_96 : BitVec 32 := 1#32
  let v195 : BitVec 32 := Scalar.muli v194 c1_i32_96
  let v196 : BitVec 32 := Scalar.addi c0_i32_97 v195
  v196.toNat
def k0_off3 (d0 : Dev nD) (c1_i32_100 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v205 : BitVec 32 := Scalar.xori v2 c1_i32_100
  ![v205.toNat]
def k0_off4 (d0 : Dev nD) (c1_i32_100 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v205 : BitVec 32 := Scalar.xori v2 c1_i32_100
  let c0_i32_104 : BitVec 32 := 0#32
  let c0_i32_105 : BitVec 32 := 0#32
  ![v205.toNat, 0, 0]
def k0_off5 (d0 : Dev nD) (c1_i32_100 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v205 : BitVec 32 := Scalar.xori v2 c1_i32_100
  let v212 : Index := Scalar.indexCast v205
  let c96_106 : Index := 96#32
  let c0_107 : Index := 0#32
  ![v212.toNat, 96, 0]
def k0_off6 (d0 : Dev nD) (c1_i32_100 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v205 : BitVec 32 := Scalar.xori v2 c1_i32_100
  let v222 : Index := Scalar.indexCast v205
  let c0_108 : Index := 0#32
  let c0_109 : Index := 0#32
  ![v222.toNat, 0, 0]
abbrev stage0_0 : Fin 1 → Memref sig .tc .vmem S256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S256x128 : Shape := ⟨2, ![256, 128]⟩
abbrev S128x16 : Shape := ⟨2, ![128, 16]⟩
abbrev S256x2 : Shape := ⟨2, ![256, 2]⟩
abbrev S16x128x256 : Shape := ⟨3, ![16, 128, 256]⟩
abbrev S256x16 : Shape := ⟨2, ![256, 16]⟩
abbrev S_ : Shape := ⟨0, ![]⟩
abbrev S256 : Shape := ⟨1, ![256]⟩
abbrev S256x1 : Shape := ⟨2, ![256, 1]⟩
abbrev S256x2x1 : Shape := ⟨3, ![256, 2, 1]⟩
abbrev S256x128x256 : Shape := ⟨3, ![256, 128, 256]⟩
abbrev S256x256 : Shape := ⟨2, ![256, 256]⟩

abbrev nBuf : Space → Nat
  | .hbm => 65
  | .vmem => 0
  | .smem => 0
  | _ => 0

abbrev bufTy : (tb : Table) → Fin (tcTables nBuf tb) → BufTy
  | .hbm, ⟨0, _⟩ => ⟨S256x128, .bf16⟩
  | .hbm, ⟨1, _⟩ => ⟨S128x16, .bf16⟩
  | .hbm, ⟨2, _⟩ => ⟨S256x2, .i32⟩
  | .hbm, ⟨3, _⟩ => ⟨S16x128x256, .bf16⟩
  | .hbm, ⟨4, _⟩ => ⟨S256x128, .f32⟩
  | .hbm, ⟨5, _⟩ => ⟨S16x128x256, .f32⟩
  | .hbm, ⟨6, _⟩ => ⟨S128x16, .f32⟩
  | .hbm, ⟨7, _⟩ => ⟨S256x16, .f32⟩
  | .hbm, ⟨8, _⟩ => ⟨S_, .f32⟩
  | .hbm, ⟨9, _⟩ => ⟨S256, .f32⟩
  | .hbm, ⟨10, _⟩ => ⟨S256x1, .f32⟩
  | .hbm, ⟨11, _⟩ => ⟨S256x16, .f32⟩
  | .hbm, ⟨12, _⟩ => ⟨S256x16, .f32⟩
  | .hbm, ⟨13, _⟩ => ⟨S256x16, .f32⟩
  | .hbm, ⟨14, _⟩ => ⟨S_, .f32⟩
  | .hbm, ⟨15, _⟩ => ⟨S256, .f32⟩
  | .hbm, ⟨16, _⟩ => ⟨S256x1, .f32⟩
  | .hbm, ⟨17, _⟩ => ⟨S256x16, .f32⟩
  | .hbm, ⟨18, _⟩ => ⟨S256x16, .f32⟩
  | .hbm, ⟨19, _⟩ => ⟨S_, .i32⟩
  | .hbm, ⟨20, _⟩ => ⟨S256x2, .i32⟩
  | .hbm, ⟨21, _⟩ => ⟨S256x2, .i1⟩
  | .hbm, ⟨22, _⟩ => ⟨S_, .i32⟩
  | .hbm, ⟨23, _⟩ => ⟨S256x2, .i32⟩
  | .hbm, ⟨24, _⟩ => ⟨S256x2, .i32⟩
  | .hbm, ⟨25, _⟩ => ⟨S256x2, .i32⟩
  | .hbm, ⟨26, _⟩ => ⟨S256x2x1, .i32⟩
  | .hbm, ⟨27, _⟩ => ⟨S256x2, .f32⟩
  | .hbm, ⟨28, _⟩ => ⟨S256x1, .f32⟩
  | .hbm, ⟨29, _⟩ => ⟨S256x1, .f32⟩
  | .hbm, ⟨30, _⟩ => ⟨S256x1, .f32⟩
  | .hbm, ⟨31, _⟩ => ⟨S256x1, .i32⟩
  | .hbm, ⟨32, _⟩ => ⟨S256, .i32⟩
  | .hbm, ⟨33, _⟩ => ⟨S_, .i32⟩
  | .hbm, ⟨34, _⟩ => ⟨S256, .i32⟩
  | .hbm, ⟨35, _⟩ => ⟨S256, .i1⟩
  | .hbm, ⟨36, _⟩ => ⟨S_, .i32⟩
  | .hbm, ⟨37, _⟩ => ⟨S256, .i32⟩
  | .hbm, ⟨38, _⟩ => ⟨S256, .i32⟩
  | .hbm, ⟨39, _⟩ => ⟨S256, .i32⟩
  | .hbm, ⟨40, _⟩ => ⟨S256x1, .i32⟩
  | .hbm, ⟨41, _⟩ => ⟨S256x128x256, .f32⟩
  | .hbm, ⟨42, _⟩ => ⟨S256x1, .i32⟩
  | .hbm, ⟨43, _⟩ => ⟨S256, .i32⟩
  | .hbm, ⟨44, _⟩ => ⟨S_, .i32⟩
  | .hbm, ⟨45, _⟩ => ⟨S256, .i32⟩
  | .hbm, ⟨46, _⟩ => ⟨S256, .i1⟩
  | .hbm, ⟨47, _⟩ => ⟨S_, .i32⟩
  | .hbm, ⟨48, _⟩ => ⟨S256, .i32⟩
  | .hbm, ⟨49, _⟩ => ⟨S256, .i32⟩
  | .hbm, ⟨50, _⟩ => ⟨S256, .i32⟩
  | .hbm, ⟨51, _⟩ => ⟨S256x1, .i32⟩
  | .hbm, ⟨52, _⟩ => ⟨S256x128x256, .f32⟩
  | .hbm, ⟨53, _⟩ => ⟨S256x256, .f32⟩
  | .hbm, ⟨54, _⟩ => ⟨S256x256, .f32⟩
  | .hbm, ⟨55, _⟩ => ⟨S256x1, .f32⟩
  | .hbm, ⟨56, _⟩ => ⟨S256x1, .f32⟩
  | .hbm, ⟨57, _⟩ => ⟨S256x256, .f32⟩
  | .hbm, ⟨58, _⟩ => ⟨S256x256, .f32⟩
  | .hbm, ⟨59, _⟩ => ⟨S256x1, .f32⟩
  | .hbm, ⟨60, _⟩ => ⟨S256x1, .f32⟩
  | .hbm, ⟨61, _⟩ => ⟨S256x256, .f32⟩
  | .hbm, ⟨62, _⟩ => ⟨S256x256, .f32⟩
  | .hbm, ⟨63, _⟩ => ⟨S256x256, .f32⟩
  | .hbm, ⟨64, _⟩ => ⟨S256x256, .bf16⟩
  | _, _ => ⟨S256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_2 : Ref sig .tc := ⟨.hbm, 44, rfl⟩
abbrev main_v28 : Ref sig .tc := ⟨.hbm, 45, rfl⟩
abbrev main_v29 : Ref sig .tc := ⟨.hbm, 46, rfl⟩
abbrev main_c_3 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]
-- ==== Proof.Protocol.lean ====
/-
`Protocol`: the exchange of the eight devices, as a schedule of duties.

Each device tells its seven peers (the devices at the exclusive-ors 1 to 7) that its slot for them is free, waits for
the same from them, sends its one message into its own slot on each peer, and takes each peer's message in.
The schedule has one round. A device's barrier cell has seven duties, one per peer, each handing over that peer's slot
for this device; the cell of a send has one duty, handing back the lent share of the message; the cell of a receive has
one duty, handing over the slot with the peer's message in it.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.ValueLayout
public import Idealize.ShloMosaic.Lib.Tactic

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The exchange's resources: rounds whose duties are named by devices. -/
abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## The peers -/

set_option backward.proofsInPublic true in
/-- Peer `k` of device `c`: the device whose number differs by the exclusive-or with `k + 1`. -/
def px (k : Fin 7) (c : Dev nD) : Dev nD :=
  ⟨(c.val ^^^ (k.val + 1)) % 8, Nat.mod_lt _ (by decide)⟩

theorem px_px (k : Fin 7) (c : Dev nD) : px k (px k c) = c := by revert k c; decide
theorem px_ne (k : Fin 7) (c : Dev nD) : px k c ≠ c := by revert k c; decide
theorem px_inj (c : Dev nD) {k k' : Fin 7} (h : px k c = px k' c) : k = k' := by
  revert k k' c; decide

/-! ## The memrefs and cells -/

abbrev xM : Memref sig .tc .vmem S256x128 .bf16 := Memref.whole cc0_stg0_0
abbrev wM : Memref sig .tc .vmem S128x16 .bf16 := Memref.whole cc0_stg1_0
abbrev iM : Memref sig .tc .vmem S256x2 .i32 := Memref.whole cc0_stg2_0
abbrev eM : Memref sig .tc .vmem S2x128x256 .bf16 := Memref.whole cc0_stg3_0
abbrev oM : Memref sig .tc .vmem S256x256 .bf16 := Memref.whole cc0_stg4_0
abbrev msgM : Memref sig .tc .vmem S112x256 .bf16 := Memref.whole cc0_scratch0
abbrev bufM : Memref sig .tc .vmem S8x112x256 .bf16 := Memref.whole cc0_scratch1

theorem slot_inb (j : Dev nD) : ∀ a, (![j.val, 0, 0] : Fin 3 → ℕ) a + S1x112x256.size a ≤ S8x112x256.size a := by
  revert j; decide

/-- Slot `j` of the landing buffer, as a message-shaped memref. -/
abbrev slotM (j : Dev nD) : Memref sig .tc .vmem S112x256 .bf16 :=
  (bufM.slice (Rect.unit (s := S8x112x256) ![j.val, 0, 0] S1x112x256.size (slot_inb j)) (fun _ => rfl)).squeeze
    S112x256 squeezes_S1x112x256_S112x256

/-- The runtime's barrier semaphore, the semaphore of send `j`, the semaphore of what comes from device `j`. -/
abbrev barS : Sem sig := (SemArray.scalar (sig.barrier 0 rfl) : Sems sig S_).sem
set_option backward.proofsInPublic true in
def sS (j : Dev nD) : DmaSem sig := ⟨5 + j.val, by have : j.val < 8 := j.isLt; show 5 + j.val < 21; omega⟩
set_option backward.proofsInPublic true in
def rS (j : Dev nD) : DmaSem sig := ⟨13 + j.val, by have : j.val < 8 := j.isLt; show 13 + j.val < 21; omega⟩
/-- The number of the send semaphore used for peer `k`. -/
abbrev sk (k : Fin 7) : Dev nD := k.succ

abbrev barCell (c : Dev nD) : GSem nD τ sig := ((c : Thread nD τ), .reg barS)
abbrev sendCell (c j : Dev nD) : GSem nD τ sig := ((c : Thread nD τ), .dma (sS j))
abbrev recvCell (c j : Dev nD) : GSem nD τ sig := ((c : Thread nD τ), .dma (rS j))

/-- The kernel's own semaphores: the send ones, then the receive ones. -/
abbrev osem : Dev nD ⊕ Dev nD → SemLoc sig
  | .inl j => .dma (sS j)
  | .inr j => .dma (rS j)
/-- All the semaphores of the exchange: the barrier and the kernel's own. -/
abbrev csem : Unit ⊕ (Dev nD ⊕ Dev nD) → SemLoc sig
  | .inl _ => .reg barS
  | .inr o => osem o
abbrev kcell (ck : Dev nD × (Unit ⊕ (Dev nD ⊕ Dev nD))) : GSem nD τ sig := ((ck.1 : Thread nD τ), csem ck.2)

theorem rS_inj {i j : Dev nD} (h : rS i = rS j) : i = j := by
  have := congrArg Fin.val h; simp only [rS] at this; exact Fin.ext (by omega)
theorem sS_inj {i j : Dev nD} (h : sS i = sS j) : i = j := by
  have := congrArg Fin.val h; simp only [sS] at this; exact Fin.ext (by omega)

/-- A transfer's credit: that of one message. -/
abbrev N : ℕ := msgM.view.dmaCredit
theorem N_pos : 0 < N := View.dmaCredit_pos _ (by decide)
theorem slot_credit (j : Dev nD) : (slotM j).view.dmaCredit = N := by revert j; decide

/-! ## Contents -/

/-- The device's number as the kernel computes it. -/
abbrev pw (c : Dev nD) : BitVec 32 := Scalar.remsi (Scalar.divsi (Dev.word c) 1#32) 8#32

/-- Device `c`'s own share of the result: its two experts applied to its gated rows. -/
def partOf (p : BitVec 32) (x : Vec F S256x128 .bf16) (w : Vec F S128x16 .bf16) (i0 i1 : Vec F S256x1 .i32)
    (e : Vec F S2x128x256 .bf16) : FVec F S256x256 .f32 :=
  k0_pay9 p (k0_pay1 x) (k0_pay3 (F := F) i0) (k0_pay4 (F := F) i1) (k0_pay5 x w i0) (k0_pay6 x w i1) (k0_pay7 x w i0 i1)
    (Scalar.addi (Scalar.muli p 2#32) 0#32) (k0_pay8 p x w i0 i1) e

/-- The message's rows: the rows of the share that the device's tokens pick, packed. -/
def rowsOf (p : BitVec 32) (x : Vec F S256x128 .bf16) (w : Vec F S128x16 .bf16) (i0 i1 : Vec F S256x1 .i32)
    (e : Vec F S2x128x256 .bf16) : FVec F S96x256 .bf16 :=
  k0_pay14 (partOf p x w i0 i1 e) (k0_pay10 p (k0_pay3 (F := F) i0) (k0_pay4 (F := F) i1))
    (k0_pay11 (F := F) p (k0_pay3 (F := F) i0) (k0_pay4 (F := F) i1)) (iota .tc S256x256 32 [1] iota_S256x256_d1_w32) (k0_pay12 (F := F))
    (constant S256x1 .f32 0x00000000#32)

/-- The message's index row: which token each packed row is of. -/
def idsOf (p : BitVec 32) (i0 i1 : Vec F S256x1 .i32) : FVec F S1x256 .bf16 :=
  k0_pay15 (k0_pay10 p (k0_pay3 (F := F) i0) (k0_pay4 (F := F) i1))
    (k0_pay11 (F := F) p (k0_pay3 (F := F) i0) (k0_pay4 (F := F) i1)) (iota .tc S256x256 32 [1] iota_S256x256_d1_w32) (k0_pay12 (F := F))
    (constant S256x1 .f32 0x00000000#32)

def X0 (c : Dev nD) : Vec F S256x128 .bf16 := (win0_0.blk (0 : Fin 1)).view.read (Elt F) ((s₀ m ρ).mem ((c : Thread nD τ).loc main_arg0))
def X1 (c : Dev nD) : Vec F S128x16 .bf16 := (win0_1.blk (0 : Fin 1)).view.read (Elt F) ((s₀ m ρ).mem ((c : Thread nD τ).loc main_arg1))
def X2 (c : Dev nD) : Vec F S256x2 .i32 := (win0_2.blk (0 : Fin 1)).view.read (Elt F) ((s₀ m ρ).mem ((c : Thread nD τ).loc main_arg2))
def X3 (c : Dev nD) : Vec F S2x128x256 .bf16 := (win0_3.blk (0 : Fin 1)).view.read (Elt F) ((s₀ m ρ).mem ((c : Thread nD τ).loc main_arg3))

/-- The two columns of the token indices. -/
def I0 (c : Dev nD) : Vec F S256x1 .i32 :=
  iM.view.readAt (Elt F) (Rect.unit (s := S256x2) ![0, 0] S256x1.size inb_S256x2_S256x1_0_0).toLoadRect (X2 m ρ c)
def I1 (c : Dev nD) : Vec F S256x1 .i32 :=
  iM.view.readAt (Elt F) (Rect.unit (s := S256x2) ![0, 1] S256x1.size inb_S256x2_S256x1_0_1).toLoadRect (X2 m ρ c)

def partA (c : Dev nD) : FVec F S256x256 .f32 := partOf (pw c) (X0 m ρ c) (X1 m ρ c) (I0 m ρ c) (I1 m ρ c) (X3 m ρ c)
def rowsA (c : Dev nD) : FVec F S96x256 .bf16 := rowsOf (pw c) (X0 m ρ c) (X1 m ρ c) (I0 m ρ c) (I1 m ρ c) (X3 m ρ c)
def idsA (c : Dev nD) : FVec F S1x256 .bf16 := idsOf (pw c) (I0 m ρ c) (I1 m ρ c)

/-- The same as they are read out of a slot: with a leading axis of one. -/
def rowsV (c : Dev nD) : Vec F S1x96x256 .bf16 := fun x => rowsA m ρ c (ix2 (x 1) (x 2))
def idsV (c : Dev nD) : Vec F S1x1x256 .bf16 := fun x => idsA m ρ c (ix2 (x 1) (x 2))

abbrev msgRows : Rect S112x256 := Rect.unit (s := S112x256) ![0, 0] S96x256.size inb_S112x256_S96x256_0_0
theorem msgIds_inb : ∀ a, (![96, 0] : Fin 2 → ℕ) a + S1x256.size a ≤ S112x256.size a := by decide
abbrev msgIds : Rect S112x256 := Rect.unit (s := S112x256) ![96, 0] S1x256.size msgIds_inb
theorem slotRows_inb (j : Dev nD) : ∀ a, (![j.val, 0, 0] : Fin 3 → ℕ) a + S1x96x256.size a ≤ S8x112x256.size a := by
  revert j; decide
theorem slotIds_inb (j : Dev nD) : ∀ a, (![j.val, 96, 0] : Fin 3 → ℕ) a + S1x1x256.size a ≤ S8x112x256.size a := by
  revert j; decide
abbrev slotRows (j : Dev nD) : Rect S8x112x256 := Rect.unit (s := S8x112x256) ![j.val, 0, 0] S1x96x256.size (slotRows_inb j)
abbrev slotIds (j : Dev nD) : Rect S8x112x256 := Rect.unit (s := S8x112x256) ![j.val, 96, 0] S1x1x256.size (slotIds_inb j)

/-- The message buffer holds device `c`'s message: its rows and its index row. -/
def MsgOK (c : Dev nD) (f : Vec F S112x256 .bf16) : Prop :=
  (∀ (r : Fin 96) (k : Fin 256), f (ix2 (⟨r.val, by omega⟩ : Fin 112) k) = rowsA m ρ c (ix2 r k))
    ∧ ∀ k : Fin 256, f (ix2 (⟨96, by omega⟩ : Fin 112) k) = idsA m ρ c (ix2 (0 : Fin 1) k)

/-- Slot `j` of the landing buffer holds device `j`'s message. -/
def SlotOK (j : Dev nD) (f : Vec F S8x112x256 .bf16) : Prop :=
  bufM.view.readAt (Elt F) (slotRows j).toLoadRect f = rowsV m ρ j
    ∧ bufM.view.readAt (Elt F) (slotIds j).toLoadRect f = idsV m ρ j

omit [FloatOps F] in
/-- Where an element of slot `j` lies in the landing buffer. -/
theorem slot_emb (j : Dev nD) (r : Fin 112) (k : Fin 256) : (slotM j).view.emb (ix2 r k) = ix3 j r k := by
  have h1 : (slotM j).view.emb (ix2 r k)
      = (Rect.unit (s := S8x112x256) ![j.val, 0, 0] S1x112x256.size (slot_inb j)).emb
          (Shape.reshapeEquiv squeezes_S1x112x256_S112x256.numel_eq (ix2 r k)) := rfl
  rw [h1, reshapeEquiv_ix2_1ab]
  funext a
  fin_cases a
  · exact Fin.ext (by show j.val + 1 * 0 = j.val; omega)
  · exact Fin.ext (by show 0 + 1 * r.val = r.val; omega)
  · exact Fin.ext (by show 0 + 1 * k.val = k.val; omega)

/-- A message that lands in slot `c` leaves the slot with device `c`'s message. -/
theorem slotOK_landed (c : Dev nD) (fd : Vec F S8x112x256 .bf16) (fs : Vec F S112x256 .bf16) (h : MsgOK m ρ c fs) :
    SlotOK m ρ c ((slotM c).view.write (Elt F) fd (msgM.view.read (Elt F) fs) Finset.univ) := by
  have hw : ∀ (r : Fin 112) (k : Fin 256),
      (slotM c).view.write (Elt F) fd (msgM.view.read (Elt F) fs) Finset.univ (ix3 c r k) = fs (ix2 r k) := fun r k => by
    rw [← slot_emb c r k, View.write_emb_of_mem _ _ (Finset.mem_univ _)]; rfl
  constructor
  · funext x
    refine Eq.trans (b := (slotM c).view.write (Elt F) fd (msgM.view.read (Elt F) fs) Finset.univ (ix3 c ⟨(x 1).val, by have := (x 1).isLt; change _ < 96 at this; omega⟩ (x 2))) ?_ ?_
    · refine congrArg ((slotM c).view.write (Elt F) fd (msgM.view.read (Elt F) fs) Finset.univ) (funext fun a => ?_)
      fin_cases a
      · exact Fin.ext (by have := (x 0).isLt; change _ < 1 at this; show c.val + 1 * (x 0).val = c.val; omega)
      · exact Fin.ext (by show 0 + 1 * (x 1).val = (x 1).val; omega)
      · exact Fin.ext (by show 0 + 1 * (x 2).val = (x 2).val; omega)
    · exact (hw _ _).trans (h.1 (x 1) (x 2))
  · funext x
    have h0 : x 1 = (0 : Fin 1) := Subsingleton.elim (α := Fin 1) _ _
    refine Eq.trans (b := (slotM c).view.write (Elt F) fd (msgM.view.read (Elt F) fs) Finset.univ (ix3 c ⟨96, by omega⟩ (x 2))) ?_ ?_
    · refine congrArg ((slotM c).view.write (Elt F) fd (msgM.view.read (Elt F) fs) Finset.univ) (funext fun a => ?_)
      fin_cases a
      · exact Fin.ext (by have := (x 0).isLt; change _ < 1 at this; show c.val + 1 * (x 0).val = c.val; omega)
      · exact Fin.ext (by have := (x 1).isLt; change _ < 1 at this; show 96 + 1 * (x 1).val = 96; omega)
      · exact Fin.ext (by show 0 + 1 * (x 2).val = (x 2).val; omega)
    · refine (hw _ _).trans ((h.2 (x 2)).trans ?_)
      show _ = idsA m ρ c (ix2 (x 1) (x 2))
      exact congrArg (fun z : Fin 1 => idsA m ρ c (ix2 z (x 2))) h0.symm

/-! ## Holdings -/

/-- Slot `j` on device `d`, holding `f`. -/
def slotPts (d j : Dev nD) (f : Buf (Elt F) ((slotM j).view.loc (d : Thread nD τ))) : sProp 𝕄 :=
  (slotM j).view.loc (d : Thread nD τ) ↦[(slotM j).view.set]{fullShare} f
/-- The message buffer on device `c`, a share of it, holding `f`. -/
def msgPts (c : Dev nD) (q : PosShare TreeShare) (f : Buf (Elt F) (msgM.view.loc (c : Thread nD τ))) : sProp 𝕄 :=
  msgM.view.loc (c : Thread nD τ) ↦[msgM.view.set]{q} f

omit [FloatOps F] in
instance slotPts_storable (d j : Dev nD) (f) : BI.Storable (upEmb : UEmb _ 𝕄) (slotPts (F := F) d j f) := by unfold slotPts; infer_instance
omit [FloatOps F] in
instance msgPts_storable (c : Dev nD) (q) (f) : BI.Storable (upEmb : UEmb _ 𝕄) (msgPts (F := F) c q f) := by unfold msgPts; infer_instance

/-! ## The schedule -/

/-- What device `d`'s signal hands device `c`: `d`'s slot for `c`. -/
def barPay (c d : Dev nD) : sProp 𝕄 := iprop(∃ f, slotPts d c f)
/-- What the end of the send with share number `n` hands back: the share. -/
def sendPay (c : Dev nD) (n : ℕ) : sProp 𝕄 := iprop(∃ f, msgPts c (Transfers.shareTokN fullShare n) f)
/-- What the arrival from `d` hands device `c`: the slot with `d`'s message. -/
def recvPay (c d : Dev nD) : sProp 𝕄 := iprop(∃ f, ⌜SlotOK m ρ d f⌝ ∗ slotPts c d f)

/-- The duties of one semaphore of device `c`. -/
def dutiesOf (c : Dev nD) : SemLoc sig → Finset (Dev nD)
  | .reg _ => Finset.univ.erase c
  | .dma q => if 6 ≤ q.val ∧ q.val < 13 then {c} else Finset.univ.filter fun j => q = rS j ∧ j ≠ c
def amountOf : SemLoc sig → ℕ
  | .reg _ => 1
  | .dma _ => N
def payOf (c : Dev nD) (d : Dev nD) : SemLoc sig → sProp 𝕄
  | .reg _ => barPay c d
  | .dma q => if q.val < 13 then sendPay c (q.val - 6) else recvPay m ρ c d

/-- The exchange's one round. -/
def xRd : Rounds.Schedule (GSem nD τ sig) (Dev nD) 𝕄 where
  duties g r := if r = 0 ∧ g.1.2 = .tc then dutiesOf g.1.1 g.2 else ∅
  unitless _ := False
  amount g _ _ := amountOf g.2
  payload g _ d := payOf m ρ g.1.1 d g.2
  amount_pos g _ _ _ := by
    show 0 < amountOf g.2
    cases g.2 with
    | reg _ => exact Nat.one_pos
    | dma _ => exact N_pos

instance xRd_payload_storable (g : GSem nD τ sig) (r : ℕ) (d : Dev nD) :
    BI.Storable (upEmb : UEmb _ 𝕄) ((xRd (F := F) m ρ).payload g r d) := by
  show BI.Storable upEmb (payOf m ρ g.1.1 d g.2)
  cases g.2 with
  | reg _ => unfold payOf barPay; infer_instance
  | dma q => unfold payOf sendPay recvPay; dsimp only; split <;> infer_instance

section Sched
variable (c : Dev nD)

theorem duties_at (sm : SemLoc sig) : (xRd (F := F) m ρ).duties ((c : Thread nD τ), sm) 0 = dutiesOf c sm := by
  dsimp only [xRd]; exact if_pos ⟨rfl, rfl⟩
theorem duties_bar : (xRd (F := F) m ρ).duties (barCell c) 0 = Finset.univ.erase c := duties_at m ρ c _
theorem duties_send (k : Fin 7) : (xRd (F := F) m ρ).duties (sendCell c (sk k)) 0 = {c} := by
  rw [duties_at]; dsimp only [dutiesOf]
  rw [if_pos]
  have := k.isLt
  simp only [sS, sk, Fin.val_succ]; omega
theorem duties_recv (d : Dev nD) (h : d ≠ c) : (xRd (F := F) m ρ).duties (recvCell c d) 0 = {d} := by
  rw [duties_at]; dsimp only [dutiesOf]
  rw [if_neg (by simp only [rS]; omega)]
  ext j
  simp only [Finset.mem_filter, Finset.mem_univ, true_and, Finset.mem_singleton]
  exact ⟨fun hj => (rS_inj hj.1).symm, fun hj => by subst hj; exact ⟨rfl, h⟩⟩
theorem duties_later (g : GSem nD τ sig) : ∀ r, 1 ≤ r → (xRd (F := F) m ρ).duties g r = ∅ :=
  fun r hr => by dsimp only [xRd]; exact if_neg fun h => by omega
/-- The unused cells: send 0 and what would come from the device itself. -/
theorem duties_send0 : ∀ r, 0 ≤ r → (xRd (F := F) m ρ).duties (sendCell c 0) r = ∅ := fun r _ => by
  rcases Nat.eq_zero_or_pos r with rfl | h
  · rw [duties_at]; dsimp only [dutiesOf]
    rw [if_neg (by decide)]
    exact Finset.filter_eq_empty_iff.mpr fun j _ hj => by
      have h1 := congrArg Fin.val hj.1; simp only [sS, rS] at h1
      have h2 : ((0 : Dev nD) : ℕ) = 0 := rfl
      omega
  · exact duties_later m ρ _ r h
theorem duties_recv_self : ∀ r, 0 ≤ r → (xRd (F := F) m ρ).duties (recvCell c c) r = ∅ := fun r _ => by
  rcases Nat.eq_zero_or_pos r with rfl | h
  · rw [duties_at]; dsimp only [dutiesOf]
    rw [if_neg (by simp only [rS]; omega)]
    exact Finset.filter_eq_empty_iff.mpr fun j _ hj => hj.2 (rS_inj hj.1).symm
  · exact duties_later m ρ _ r h

theorem amount_bar (d : Dev nD) : (xRd (F := F) m ρ).amount (barCell c) 0 d = 1 := rfl
theorem amount_send (j d : Dev nD) : (xRd (F := F) m ρ).amount (sendCell c j) 0 d = N := rfl
theorem amount_recv (j d : Dev nD) : (xRd (F := F) m ρ).amount (recvCell c j) 0 d = N := rfl

theorem expect_bar : (xRd (F := F) m ρ).expect (barCell c) 0 = 7 := by
  unfold Schedule.expect Schedule.amountOf
  rw [duties_bar, Finset.sum_congr rfl fun d _ => amount_bar m ρ c d, Finset.sum_const, smul_eq_mul, Nat.mul_one]
  revert c; decide
theorem expect_send (k : Fin 7) : (xRd (F := F) m ρ).expect (sendCell c (sk k)) 0 = N := by
  unfold Schedule.expect Schedule.amountOf; rw [duties_send, Finset.sum_singleton, amount_send]
theorem expect_recv (k : Fin 7) : (xRd (F := F) m ρ).expect (recvCell c (px k c)) 0 = N := by
  unfold Schedule.expect Schedule.amountOf; rw [duties_recv m ρ c _ (px_ne k c), Finset.sum_singleton, amount_recv]

theorem payload_bar (d : Dev nD) : (xRd (F := F) m ρ).payload (barCell c) 0 d = barPay c d := rfl
theorem payload_send (k : Fin 7) (d : Dev nD) : (xRd (F := F) m ρ).payload (sendCell c (sk k)) 0 d = sendPay c k.val := by
  have h1 : (sS (sk k)).val < 13 := by have := k.isLt; simp only [sS, sk, Fin.val_succ]; omega
  dsimp only [xRd, payOf]
  rw [if_pos h1]
  exact congrArg (sendPay c) (by simp only [sS, sk, Fin.val_succ]; omega)
theorem payload_recv (j d : Dev nD) : (xRd (F := F) m ρ).payload (recvCell c j) 0 d = recvPay m ρ c d := by
  dsimp only [xRd, payOf]
  exact if_neg (by simp only [rS]; omega)

/-- The peers of `c` are the other devices. -/
theorem peers_eq : (Finset.univ.erase c : Finset (Dev nD)) = [px 0 c, px 1 c, px 2 c, px 3 c, px 4 c, px 5 c, px 6 c].toFinset := by
  revert c; decide
theorem peers_nodup : [px 0 c, px 1 c, px 2 c, px 3 c, px 4 c, px 5 c, px 6 c].Nodup := by revert c; decide
theorem devs_eq : (Finset.univ : Finset (Dev nD)) = [c, px 0 c, px 1 c, px 2 c, px 3 c, px 4 c, px 5 c, px 6 c].toFinset := by
  revert c; decide
theorem devs_nodup : [c, px 0 c, px 1 c, px 2 c, px 3 c, px 4 c, px 5 c, px 6 c].Nodup := by revert c; decide

/-- A family over the devices, listed from `c`. -/
theorem bigSep_devs (Φ : Dev nD → sProp 𝕄) : bigSep Finset.univ Φ
    = iprop(Φ c ∗ Φ (px 0 c) ∗ Φ (px 1 c) ∗ Φ (px 2 c) ∗ Φ (px 3 c) ∗ Φ (px 4 c) ∗ Φ (px 5 c) ∗ Φ (px 6 c)) :=
  bigSep_univ_eq_bigSepL [c, px 0 c, px 1 c, px 2 c, px 3 c, px 4 c, px 5 c, px 6 c] (devs_eq c) (devs_nodup c) Φ
theorem bigSep_fin7 (Φ : Fin 7 → sProp 𝕄) : bigSep Finset.univ Φ
    = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_sends (Φ : Dev nD → sProp 𝕄) : bigSep Finset.univ Φ
    = iprop(Φ 0 ∗ Φ (sk 0) ∗ Φ (sk 1) ∗ Φ (sk 2) ∗ Φ (sk 3) ∗ Φ (sk 4) ∗ Φ (sk 5) ∗ Φ (sk 6)) :=
  bigSep_univ_eq_bigSepL [0, sk 0, sk 1, sk 2, sk 3, sk 4, sk 5, sk 6] (by decide) (by decide) Φ

theorem rest_bar : bigSep ((xRd (F := F) m ρ).duties (barCell c) 0 \ ∅) (fun d => (xRd (F := F) m ρ).payload (barCell c) 0 d)
    = iprop(barPay c (px 0 c) ∗ barPay c (px 1 c) ∗ barPay c (px 2 c) ∗ barPay c (px 3 c) ∗ barPay c (px 4 c) ∗ barPay c (px 5 c) ∗ barPay c (px 6 c)) := by
  rw [Finset.sdiff_empty, duties_bar, bigSep_eq_bigSepL_of_eq _ (peers_eq c) (peers_nodup c)]; rfl
theorem rest_send (k : Fin 7) : bigSep ((xRd (F := F) m ρ).duties (sendCell c (sk k)) 0 \ ∅) (fun d => (xRd (F := F) m ρ).payload (sendCell c (sk k)) 0 d)
    = sendPay c k.val := by
  rw [Finset.sdiff_empty, duties_send, bigSep_singleton, payload_send]
theorem rest_recv (k : Fin 7) : bigSep ((xRd (F := F) m ρ).duties (recvCell c (px k c)) 0 \ ∅) (fun d => (xRd (F := F) m ρ).payload (recvCell c (px k c)) 0 d)
    = recvPay m ρ c (px k c) := by
  rw [Finset.sdiff_empty, duties_recv m ρ c _ (px_ne k c), bigSep_singleton, payload_recv]

end Sched

/-! ## What each device owes at launch; the levels -/

/-- The receive credits device `c` owes to the peers listed, the first listed paid first. -/
def oRecv (c : Dev nD) : List (Fin 7) → CellTallies nD τ sig Unit
  | [] => 0
  | k :: l => oRecv c l + tallyAt (recvCell (px k c) c) () N
/-- The order in which the sends are issued. -/
abbrev ord : List (Fin 7) := [0, 2, 3, 1, 4, 6, 5]
/-- The barrier units device `c` owes to the peers listed, over all its receive credits. -/
def oBar (c : Dev nD) : List (Fin 7) → CellTallies nD τ sig Unit
  | [] => oRecv c ord
  | k :: l => oBar c l + tallyAt (barCell (px k c)) () 1
def O₀ (c : Dev nD) : CellTallies nD τ sig Unit := oBar c [0, 1, 2, 3, 4, 5, 6]

def L (g : GSem nD τ sig) : Finset Unit := if g.1.2 = .tc then {()} else ∅
/-- barrier cells at 1, receive cells at 2, everything else at 0. -/
def lv (g : GSem nD τ sig) (_ : Unit) : ℕ := match g.2 with
  | .reg _ => 1
  | .dma q => if q.val < 13 then 0 else 2

theorem L_of_ne (g : GSem nD τ sig) (h : g.1.2 ≠ .tc) : L g = ∅ := if_neg h
theorem L_tc (c : Dev nD) (sm : SemLoc sig) : L ((c : Thread nD τ), sm) = {()} := if_pos rfl
theorem lv_recv (c j : Dev nD) : lv (recvCell c j) () = 2 := by
  dsimp only [lv]; exact if_neg (by simp only [rS]; omega)

theorem oRecv_pos {c : Dev nD} {l : List (Fin 7)} {g : GSem nD τ sig} {u : Unit} (h : 0 < oRecv c l g u) :
    ∃ k, g = recvCell (px k c) c := by
  induction l with
  | nil => exact absurd h (Nat.lt_irrefl 0)
  | cons k l ih =>
    unfold oRecv at h
    rw [Pi.add_apply, Finsupp.add_apply, tallyAt_apply] at h
    by_cases hg : g = recvCell (px k c) c ∧ u = ()
    · exact ⟨k, hg.1⟩
    · rw [if_neg hg, Nat.add_zero] at h; exact ih h
theorem oBar_pos {c : Dev nD} {l : List (Fin 7)} {g : GSem nD τ sig} {u : Unit} (h : 0 < oBar c l g u) :
    (∃ k, g = recvCell (px k c) c) ∨ ∃ k, g = barCell (px k c) := by
  induction l with
  | nil => exact .inl (oRecv_pos h)
  | cons k l ih =>
    unfold oBar at h
    rw [Pi.add_apply, Finsupp.add_apply, tallyAt_apply] at h
    by_cases hg : g = barCell (px k c) ∧ u = ()
    · exact .inr ⟨k, hg.1⟩
    · rw [if_neg hg, Nat.add_zero] at h; exact ih h

omit [FloatOps F] in
/-- The pipeline's own waits are below everything owed. -/
theorem mayWait_stage (c : Dev nD) (q : DmaSem sig) (hq : q.val < 13) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases oBar_pos hg with ⟨k, rfl⟩ | ⟨k, rfl⟩ <;> exact Finset.mem_singleton_self _)
      (fun p hp => by rw [Finset.mem_singleton.mp hp]; exact (if_pos hq).le)
      (fun g u hg => by
        rcases oBar_pos hg with ⟨k, rfl⟩ | ⟨k, rfl⟩
        · rw [lv_recv]; decide
        · exact Nat.one_pos)
  · rw [MayWait_zero]; iintro -; iempintro

omit [FloatOps F] in
/-- At its barrier wait a device owes receive credits only, above its barrier cell. -/
theorem mayWait_bar (c : Dev nD) : (levAts L lv : sProp 𝕄) ⊢ MayWait (c : Thread nD τ) (.reg barS) () (oRecv c ord) :=
  MayOwe.of_cut (L := L) (lev := lv) 1 (fun p hp => by rw [Finset.mem_singleton.mp hp, L_tc]; exact Finset.mem_singleton_self _)
    (fun g u hg => by obtain ⟨k, rfl⟩ := oRecv_pos hg; exact Finset.mem_singleton_self _)
    (fun p hp => by rw [Finset.mem_singleton.mp hp]; exact Nat.le_refl _)
    (fun g u hg => by obtain ⟨k, rfl⟩ := oRecv_pos hg; rw [lv_recv]; decide)

end Cert.Moe

end
-- ==== Proof.Steps.lean ====
/-
`Steps`: one lemma for each kind of step the kernel takes in the exchange — a signal to a peer, the barrier wait, a
send, the wait for a message, the wait for a send — over what a device holds for it.
-/
module

public import proofs.«01_k».proof.Proof.Protocol

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev Cells : Type := Unit ⊕ (Dev nD ⊕ Dev nD)

/-- What every device knows: the invariant of every cell, under the names `K`, and that every cell is open. -/
def records (K : Dev nD × Cells → ℕ) : sProp 𝕄 :=
  iprop((bigSep Finset.univ fun ck : Dev nD × Cells => cellInv ER (xRd m ρ) (K ck) (kcell ck))
    ∗ bigSep Finset.univ fun ck : Dev nD × Cells => reached ER (kcell ck) 0)

instance records_persistent (K : Dev nD × Cells → ℕ) : BI.Persistent (records m ρ K) := by unfold records; infer_instance

theorem inv_at (K : Dev nD × Cells → ℕ) (ck : Dev nD × Cells) :
    (bigSep Finset.univ fun ck : Dev nD × Cells => (cellInv ER (xRd m ρ) (K ck) (kcell ck) : sProp 𝕄)) ⊢ cellInv ER (xRd m ρ) (K ck) (kcell ck) :=
  bigSep_elim (Finset.mem_univ ck)
omit [FloatOps F] in
theorem reached_at (ck : Dev nD × Cells) :
    (bigSep Finset.univ fun ck : Dev nD × Cells => (reached ER (kcell ck) 0 : sProp 𝕄)) ⊢ reached ER (kcell ck) 0 :=
  bigSep_elim (Finset.mem_univ ck)

theorem rec_inv (K : Dev nD × Cells → ℕ) (ck : Dev nD × Cells) : records m ρ K ⊢ cellInv ER (xRd m ρ) (K ck) (kcell ck) := by
  unfold records; iintro ⟨H, -⟩; iapply (inv_at m ρ K ck); iexact H
theorem rec_reached (K : Dev nD × Cells → ℕ) (ck : Dev nD × Cells) : records m ρ K ⊢ reached ER (kcell ck) 0 := by
  unfold records; iintro ⟨-, H⟩; iapply (reached_at ck); iexact H

abbrev 𝒱₀ : Variants := Variants.none

/-- What device `c` owes, whatever waits it has recorded. -/
def ow (c : Dev nD) (O : CellTallies nD τ sig Unit) : sProp 𝕄 := iprop(∃ W, owes (c : Thread nD τ) O W)

section
variable (K : Dev nD × Cells → ℕ) (c : Dev nD)

/-- A signal to peer `k`: it hands over the slot for that peer. -/
theorem step_signal (k : Fin 7) (n : Dev nD) (hn : n = px k c) (O' O : CellTallies nD τ sig Unit)
    (hO : O' = O + tallyAt (barCell (px k c)) () 1)
    {α : Type} {Q : α → sProp 𝕄} {kt : PUnit → Prog (TpuEff nD τ sig (Elt F) Λ₀ .tc) α} :
    iprop(records m ρ K ∗ ow c O' ∗ dutyTok ER (barCell (px k c)) 0 c ∗ barPay (px k c) c)
      ⊢ iprop((ow c O -∗ wp frame (wpE (defs₀ (F := F)) 𝒱₀ (c : Thread nD τ) none) Set.univ (kt ⟨⟩) Q)
          -∗ wp frame (wpE (defs₀ (F := F)) 𝒱₀ (c : Thread nD τ) none) Set.univ (.op (.semSignal (n : Thread nD τ) barS (1#32).toInt) kt) Q) := by
  subst hn hO
  unfold ow
  iintro ⟨#HR, ⟨%W, HO⟩, Ht, Hp⟩ Hk
  iapply (Rounds.wp_signal 𝒱₀ ER (xRd m ρ) (c : Thread nD τ) none (dst := (px k c : Thread nD τ)) (κ := K (px k c, .inl ()))
      (d := c) (by rw [duties_bar]; exact Finset.mem_erase.mpr ⟨(px_ne k c).symm, Finset.mem_univ _⟩)
      ((amount_bar m ρ (px k c) c).trans (by decide)) () O rfl) $$ [HO Ht Hp]
  · isplitr; · iapply (rec_inv m ρ K (px k c, .inl ())); iexact HR
    isplitl [HO]; · iexact HO
    isplitl [Ht]; · iexact Ht
    isplitl [Hp]; · rw [payload_bar]; iexact Hp
    iapply (rec_reached m ρ K (px k c, .inl ())); iexact HR
  iintro HO
  iapply Hk
  iexists W; iexact HO

/-- The barrier wait: every peer's slot for this device comes with it, and the barrier cell closes. -/
theorem step_barrier {α : Type} {Q : α → sProp 𝕄} {kt : PUnit → Prog (TpuEff nD τ sig (Elt F) Λ₀ .tc) α} :
    iprop(records m ρ K ∗ levAts L lv ∗ ow c (oRecv c ord) ∗ cred (tallyAt (barCell c) () 7) ∗ atPos ER (barCell c) 0 ∅ 0)
      ⊢ iprop(((ow c (oRecv c ord) ∗ semVal (barCell c) 0
            ∗ barPay c (px 0 c) ∗ barPay c (px 1 c) ∗ barPay c (px 2 c) ∗ barPay c (px 3 c) ∗ barPay c (px 4 c) ∗ barPay c (px 5 c) ∗ barPay c (px 6 c))
            -∗ wp frame (wpE (defs₀ (F := F)) 𝒱₀ (c : Thread nD τ) none) Set.univ (kt ⟨⟩) Q)
          -∗ wp frame (wpE (defs₀ (F := F)) 𝒱₀ (c : Thread nD τ) none) Set.univ (.op (.semWait barS (7#32).toInt) kt) Q) := by
  unfold ow
  iintro ⟨#HR, #Hlev, ⟨%W, HO⟩, Hc, Ha⟩ Hk
  ihave #HI := (rec_inv m ρ K (c, .inl ())) $$ HR
  iapply (Rounds.wp_wait_rest_token 𝒱₀ ER (xRd m ρ) (c : Thread nD τ) none (κ := K (c, .inl ()))
      (wpE_semWait_eq 𝒱₀ (c : Thread nD τ) none Set.univ) (Set.mem_univ _) () (O := oRecv c ord) (W := W) (R := 0) (m := 0) (T := ∅)
      (by rw [expect_bar]; decide)) $$ [Hc HO Ha]
  · isplitr; · iexact HI
    isplitl [Hc]; · iexact Hc
    isplitl [HO]; · iexact HO
    isplitr; · iapply (mayWait_bar c); iexact Hlev
    iexact Ha
  iintro ⟨HO, Ha, -, Hp⟩
  imod (Rounds.cell_close ER (xRd m ρ) (Set.mem_univ (K (c, .inl ()))) (fun h => h) (R := 0 + 1) (duties_later m ρ (barCell c))) $$ [Ha] with Hz
  · isplitr; · iexact HI
    iexact Ha
  iapply Hk
  isplitl [HO]; · iexists _; iexact HO
  isplitl [Hz]; · iexact Hz
  iapply (Entails.of_eq (rest_bar m ρ c)); iexact Hp

/-- The send to peer `k`: a share of the message lent, the peer's slot for this device rewritten with it. -/
theorem step_send (k : Fin 7) (n : Dev nD) (hn : n = px k c) (ss rs : DmaSem sig) (hs : ss = sS (sk k)) (hr : rs = rS c)
    (off : Fin 3 → ℕ) (hoff : off = ![c.val, 0, 0]) {inb : ∀ a, off a + S1x112x256.size a ≤ S8x112x256.size a}
    (f : Buf (Elt F) (msgM.view.loc (c : Thread nD τ))) (hf : MsgOK m ρ c f) (O' O : CellTallies nD τ sig Unit)
    (hO : O' = O + tallyAt (recvCell (px k c) c) () N)
    {hsc} {hsrc} {hdst} {hsem}
    {α : Type} {Q : α → sProp 𝕄} {kt : PUnit → Prog (TpuEff nD τ sig (Elt F) Λ₀ .tc) α} :
    iprop(records m ρ K ∗ ow c O' ∗ msgPts c (Transfers.shareTokN fullShare k.val) f
        ∗ barPay c (px k c) ∗ dutyTok ER (sendCell c (sk k)) 0 c ∗ dutyTok ER (recvCell (px k c) c) 0 c)
      ⊢ iprop(((ow c O ∗ cred (tallyAt (sendCell c (sk k)) () N)) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma msgM (.remote (Dev.tc n : Thread nD τ)
                  ((bufM.slice (Rect.unit (s := S8x112x256) off S1x112x256.size inb) (fun _ => rfl)).squeeze S112x256 squeezes_S1x112x256_S112x256)
                  (.dma ss) hsc) (.dma rs) hsrc hdst hsem) kt) Q) := by
  subst hn hs hr hoff hO
  unfold ow barPay msgPts slotPts
  iintro ⟨#HR, ⟨%W, HO⟩, Hm, ⟨%fd, Hd⟩, Ht, Hu⟩ Hk
  iapply (Rounds.wp_send_pointsTo 𝒱₀ ER (xRd m ρ) (c : Thread nD τ) none (κ₁ := K (c, .inr (.inl (sk k)))) (κ₂ := K (px k c, .inr (.inr c)))
    (r₁ := 0) (r₂ := 0) (d₁ := c) (d₂ := c) (fd := fd)
    (by rw [duties_send]; exact Finset.mem_singleton_self _) (by rw [duties_recv m ρ (px k c) c (px_ne k c).symm]; exact Finset.mem_singleton_self _)
    () () N ((View.amount_dma _ _).trans (slot_credit c)) (amount_send m ρ c (sk k) c) (amount_recv m ρ (px k c) c c) O rfl (W := W)
    (by rw [payload_send]; unfold sendPay msgPts; iintro H; iexists f; iexact H)
    (by rw [payload_recv]; unfold recvPay slotPts
        iintro H; iexists _; isplitr
        · ipureintro; exact slotOK_landed m ρ c fd f hf
        · iexact H)) $$ [HO Hm Hd Ht Hu]
  · isplitr; · iapply (rec_inv m ρ K (c, .inr (.inl (sk k)))); iexact HR
    isplitr; · iapply (rec_inv m ρ K (px k c, .inr (.inr c))); iexact HR
    isplitl [Hm]; · iexact Hm
    isplitl [Hd]; · iexact Hd
    isplitl [HO]; · iexact HO
    isplitl [Ht]; · iexact Ht
    isplitr; · iapply (rec_reached m ρ K (c, .inr (.inl (sk k)))); iexact HR
    isplitl [Hu]; · iexact Hu
    iapply (rec_reached m ρ K (px k c, .inr (.inr c))); iexact HR
  iintro ⟨Hc, HO⟩
  iapply Hk
  isplitl [HO]; · iexists W; iexact HO
  iexact Hc

/-- The wait for peer `k`'s message: the slot with it, and the cell closes. -/
theorem step_recv (k : Fin 7) (rs : DmaSem sig) (hr : rs = rS (px k c))
    (off : Fin 3 → ℕ) (hoff : off = ![(px k c).val, 0, 0]) {inb : ∀ a, off a + S1x112x256.size a ≤ S8x112x256.size a}
    {h₁} {h₂}
    {α : Type} {Q : α → sProp 𝕄} {kt : PUnit → Prog (TpuEff nD τ sig (Elt F) Λ₀ .tc) α} :
    iprop(records m ρ K ∗ ow c 0 ∗ cred (tallyAt (recvCell c (px k c)) () N) ∗ atPos ER (recvCell c (px k c)) 0 ∅ 0)
      ⊢ iprop(((ow c 0 ∗ semVal (recvCell c (px k c)) 0 ∗ recvPay m ρ c (px k c))
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.waitDma2 rs msgM
                  ((bufM.slice (Rect.unit (s := S8x112x256) off S1x112x256.size inb) (fun _ => rfl)).squeeze S112x256 squeezes_S1x112x256_S112x256)
                  h₁ h₂) kt) Q) := by
  subst hr hoff
  unfold ow
  iintro ⟨#HR, ⟨%W, HO⟩, Hc, Ha⟩ Hk
  ihave #HI := (rec_inv m ρ K (c, .inr (.inr (px k c)))) $$ HR
  iapply (Rounds.wp_wait_rest_token 𝒱₀ ER (xRd m ρ) (c : Thread nD τ) none (κ := K (c, .inr (.inr (px k c))))
      (wpE_waitDma2_eq 𝒱₀ (c : Thread nD τ) none Set.univ) (Set.mem_univ _) () (O := 0) (W := W) (R := 0) (m := 0) (T := ∅)
      (by rw [Nat.zero_add, expect_recv]; first | done | exact (slot_credit _).symm)) $$ [Hc HO Ha]
  · isplitr; · iexact HI
    isplitl [Hc]; · rw [slot_credit]; iexact Hc
    isplitl [HO]; · iexact HO
    isplitr; · rw [MayWait_zero]; iempintro
    iexact Ha
  iintro ⟨HO, Ha, -, Hp⟩
  imod (Rounds.cell_close ER (xRd m ρ) (Set.mem_univ (K (c, .inr (.inr (px k c))))) (fun h => h) (R := 0 + 1) (duties_later m ρ (recvCell c (px k c)))) $$ [Ha] with Hz
  · isplitr; · iexact HI
    iexact Ha
  iapply Hk
  isplitl [HO]; · iexists _; iexact HO
  isplitl [Hz]; · iexact Hz
  iapply (Entails.of_eq (rest_recv m ρ c k)); iexact Hp

/-- The wait for the end of the send to peer `k`: the lent share back, and the cell closes. -/
theorem step_sent (k : Fin 7) (ss : DmaSem sig) (hs : ss = sS (sk k))
    {off : Fin 3 → ℕ} {inb : ∀ a, off a + S1x112x256.size a ≤ S8x112x256.size a}
    {h₁} {h₂}
    {α : Type} {Q : α → sProp 𝕄} {kt : PUnit → Prog (TpuEff nD τ sig (Elt F) Λ₀ .tc) α} :
    iprop(records m ρ K ∗ ow c 0 ∗ cred (tallyAt (sendCell c (sk k)) () N) ∗ atPos ER (sendCell c (sk k)) 0 ∅ 0)
      ⊢ iprop(((ow c 0 ∗ semVal (sendCell c (sk k)) 0 ∗ sendPay c k.val)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.waitDma2 ss
                  ((bufM.slice (Rect.unit (s := S8x112x256) off S1x112x256.size inb) (fun _ => rfl)).squeeze S112x256 squeezes_S1x112x256_S112x256)
                  msgM h₁ h₂) kt) Q) := by
  subst hs
  unfold ow
  iintro ⟨#HR, ⟨%W, HO⟩, Hc, Ha⟩ Hk
  ihave #HI := (rec_inv m ρ K (c, .inr (.inl (sk k)))) $$ HR
  iapply (Rounds.wp_wait_rest_token 𝒱₀ ER (xRd m ρ) (c : Thread nD τ) none (κ := K (c, .inr (.inl (sk k))))
      (wpE_waitDma2_eq 𝒱₀ (c : Thread nD τ) none Set.univ) (Set.mem_univ _) () (O := 0) (W := W) (R := 0) (m := 0) (T := ∅)
      (by rw [Nat.zero_add, expect_send])) $$ [Hc HO Ha]
  · isplitr; · iexact HI
    isplitl [Hc]; · iexact Hc
    isplitl [HO]; · iexact HO
    isplitr; · rw [MayWait_zero]; iempintro
    iexact Ha
  iintro ⟨HO, Ha, -, Hp⟩
  imod (Rounds.cell_close ER (xRd m ρ) (Set.mem_univ (K (c, .inr (.inl (sk k))))) (fun h => h) (R := 0 + 1) (duties_later m ρ (sendCell c (sk k)))) $$ [Ha] with Hz
  · isplitr; · iexact HI
    iexact Ha
  iapply Hk
  isplitl [HO]; · iexists _; iexact HO
  isplitl [Hz]; · iexact Hz
  iapply (Entails.of_eq (rest_send m ρ c k)); iexact Hp

/-- A load of the index row of a slot holding a message; -/
theorem step_ids (j d : Dev nD) (hd : d = j) (off : Fin 3 → ℕ) (hoff : off = ![j.val, 96, 0]) {inb : ∀ a, off a + S1x1x256.size a ≤ S8x112x256.size a}
    {hl} {α : Type} {Q : α → sProp 𝕄} {kt : Vec F S1x1x256 .bf16 → Prog (TpuEff nD τ sig (Elt F) Λ₀ .tc) α} :
    recvPay m ρ c d
      ⊢ iprop((recvPay m ρ c d -∗ wp frame (wpE (defs₀ (F := F)) 𝒱₀ (c : Thread nD τ) none) Set.univ (kt (idsV m ρ d)) Q)
          -∗ wp frame (wpE (defs₀ (F := F)) 𝒱₀ (c : Thread nD τ) none) Set.univ
            (.op (.load bufM (Rect.unit (s := S8x112x256) off S1x1x256.size inb).toLoadRect hl) kt) Q) := by
  subst hd hoff
  unfold recvPay slotPts
  iintro ⟨%f, %hf, H⟩ Hk
  iapply (wp_load 𝒱₀ (c : Thread nD τ) none Set.univ (m := bufM) (r := (slotIds d).toLoadRect) (S := (slotM d).view.set) (by
    rw [View.set_reshape, View.set_slice]
    refine Finset.map_subset_map.mpr fun i hi => ?_
    rw [Rect.mem_set_unit] at hi ⊢
    intro a; have := hi a; fin_cases a <;> simp at this ⊢ <;> omega)) $$ H
  iintro H
  rw [hf.2]
  iapply Hk
  iexists f; isplitr; · (ipureintro; exact hf)
  iexact H

/-- and of its rows. -/
theorem step_rows (j d : Dev nD) (hd : d = j) (off : Fin 3 → ℕ) (hoff : off = ![j.val, 0, 0]) {inb : ∀ a, off a + S1x96x256.size a ≤ S8x112x256.size a}
    {hl} {α : Type} {Q : α → sProp 𝕄} {kt : Vec F S1x96x256 .bf16 → Prog (TpuEff nD τ sig (Elt F) Λ₀ .tc) α} :
    recvPay m ρ c d
      ⊢ iprop((recvPay m ρ c d -∗ wp frame (wpE (defs₀ (F := F)) 𝒱₀ (c : Thread nD τ) none) Set.univ (kt (rowsV m ρ d)) Q)
          -∗ wp frame (wpE (defs₀ (F := F)) 𝒱₀ (c : Thread nD τ) none) Set.univ
            (.op (.load bufM (Rect.unit (s := S8x112x256) off S1x96x256.size inb).toLoadRect hl) kt) Q) := by
  subst hd hoff
  unfold recvPay slotPts
  iintro ⟨%f, %hf, H⟩ Hk
  iapply (wp_load 𝒱₀ (c : Thread nD τ) none Set.univ (m := bufM) (r := (slotRows d).toLoadRect) (S := (slotM d).view.set) (by
    rw [View.set_reshape, View.set_slice]
    refine Finset.map_subset_map.mpr fun i hi => ?_
    rw [Rect.mem_set_unit] at hi ⊢
    intro a; have := hi a; fin_cases a <;> simp at this ⊢ <;> omega)) $$ H
  iintro H
  rw [hf.1]
  iapply Hk
  iexists f; isplitr; · (ipureintro; exact hf)
  iexact H

end

end Cert.Moe

end
-- ==== Proof.Places.lean ====
/-
`Places`: the devices, offsets and semaphores the kernel computes, each with the peer, the slot or the semaphore it is.
-/
module

public import proofs.«01_k».proof.Proof.Steps

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

theorem dev1_eq (c : Dev nD) : (⟨k0_dev1 c, k0_dev1_lt c⟩ : Dev nD) = px 0 c := by revert c; decide
theorem dev2_eq (c : Dev nD) : (⟨k0_dev2 c, k0_dev2_lt c⟩ : Dev nD) = px 1 c := by revert c; decide
theorem dev3_eq (c : Dev nD) : (⟨k0_dev3 c, k0_dev3_lt c⟩ : Dev nD) = px 2 c := by revert c; decide
theorem dev4_eq (c : Dev nD) : (⟨k0_dev4 c, k0_dev4_lt c⟩ : Dev nD) = px 3 c := by revert c; decide
theorem dev5_eq (c : Dev nD) : (⟨k0_dev5 c, k0_dev5_lt c⟩ : Dev nD) = px 4 c := by revert c; decide
theorem dev6_eq (c : Dev nD) : (⟨k0_dev6 c, k0_dev6_lt c⟩ : Dev nD) = px 5 c := by revert c; decide
theorem dev7_eq (c : Dev nD) : (⟨k0_dev7 c, k0_dev7_lt c⟩ : Dev nD) = px 6 c := by revert c; decide
theorem dev8_eq (c : Dev nD) : (⟨k0_dev8 c, k0_dev8_lt c⟩ : Dev nD) = px 0 c := by revert c; decide
theorem dev9_eq (c : Dev nD) : (⟨k0_dev9 c, k0_dev9_lt c⟩ : Dev nD) = px 2 c := by revert c; decide
theorem dev10_eq (c : Dev nD) : (⟨k0_dev10 c, k0_dev10_lt c⟩ : Dev nD) = px 3 c := by revert c; decide
theorem dev11_eq (c : Dev nD) : (⟨k0_dev11 c, k0_dev11_lt c⟩ : Dev nD) = px 1 c := by revert c; decide
theorem dev12_eq (c : Dev nD) : (⟨k0_dev12 c, k0_dev12_lt c⟩ : Dev nD) = px 4 c := by revert c; decide
theorem dev13_eq (c : Dev nD) : (⟨k0_dev13 c, k0_dev13_lt c⟩ : Dev nD) = px 6 c := by revert c; decide
theorem dev14_eq (c : Dev nD) : (⟨k0_dev14 c, k0_dev14_lt c⟩ : Dev nD) = px 5 c := by revert c; decide
theorem off3_1 (c : Dev nD) : k0_off3 c 1#32 = ![(px 0 c).val] := by revert c; decide
theorem off4_1 (c : Dev nD) : k0_off4 c 1#32 = ![(px 0 c).val, 0, 0] := by revert c; decide
theorem off5_1 (c : Dev nD) : k0_off5 c 1#32 = ![(px 0 c).val, 96, 0] := by revert c; decide
theorem off6_1 (c : Dev nD) : k0_off6 c 1#32 = ![(px 0 c).val, 0, 0] := by revert c; decide
theorem sem1 : ((cc0_scratch2.slice (Rect.unit (s := S8) ![1] S1.size inb_S8_S1_1)).squeeze S_ squeezes_S1_S_).sem = sS (sk 0) := by decide
theorem off3_2 (c : Dev nD) : k0_off3 c 2#32 = ![(px 1 c).val] := by revert c; decide
theorem off4_2 (c : Dev nD) : k0_off4 c 2#32 = ![(px 1 c).val, 0, 0] := by revert c; decide
theorem off5_2 (c : Dev nD) : k0_off5 c 2#32 = ![(px 1 c).val, 96, 0] := by revert c; decide
theorem off6_2 (c : Dev nD) : k0_off6 c 2#32 = ![(px 1 c).val, 0, 0] := by revert c; decide
theorem sem2 : ((cc0_scratch2.slice (Rect.unit (s := S8) ![2] S1.size inb_S8_S1_2)).squeeze S_ squeezes_S1_S_).sem = sS (sk 1) := by decide
theorem off3_3 (c : Dev nD) : k0_off3 c 3#32 = ![(px 2 c).val] := by revert c; decide
theorem off4_3 (c : Dev nD) : k0_off4 c 3#32 = ![(px 2 c).val, 0, 0] := by revert c; decide
theorem off5_3 (c : Dev nD) : k0_off5 c 3#32 = ![(px 2 c).val, 96, 0] := by revert c; decide
theorem off6_3 (c : Dev nD) : k0_off6 c 3#32 = ![(px 2 c).val, 0, 0] := by revert c; decide
theorem sem3 : ((cc0_scratch2.slice (Rect.unit (s := S8) ![3] S1.size inb_S8_S1_3)).squeeze S_ squeezes_S1_S_).sem = sS (sk 2) := by decide
theorem off3_4 (c : Dev nD) : k0_off3 c 4#32 = ![(px 3 c).val] := by revert c; decide
theorem off4_4 (c : Dev nD) : k0_off4 c 4#32 = ![(px 3 c).val, 0, 0] := by revert c; decide
theorem off5_4 (c : Dev nD) : k0_off5 c 4#32 = ![(px 3 c).val, 96, 0] := by revert c; decide
theorem off6_4 (c : Dev nD) : k0_off6 c 4#32 = ![(px 3 c).val, 0, 0] := by revert c; decide
theorem sem4 : ((cc0_scratch2.slice (Rect.unit (s := S8) ![4] S1.size inb_S8_S1_4)).squeeze S_ squeezes_S1_S_).sem = sS (sk 3) := by decide
theorem off3_5 (c : Dev nD) : k0_off3 c 5#32 = ![(px 4 c).val] := by revert c; decide
theorem off4_5 (c : Dev nD) : k0_off4 c 5#32 = ![(px 4 c).val, 0, 0] := by revert c; decide
theorem off5_5 (c : Dev nD) : k0_off5 c 5#32 = ![(px 4 c).val, 96, 0] := by revert c; decide
theorem off6_5 (c : Dev nD) : k0_off6 c 5#32 = ![(px 4 c).val, 0, 0] := by revert c; decide
theorem sem5 : ((cc0_scratch2.slice (Rect.unit (s := S8) ![5] S1.size inb_S8_S1_5)).squeeze S_ squeezes_S1_S_).sem = sS (sk 4) := by decide
theorem off3_6 (c : Dev nD) : k0_off3 c 6#32 = ![(px 5 c).val] := by revert c; decide
theorem off4_6 (c : Dev nD) : k0_off4 c 6#32 = ![(px 5 c).val, 0, 0] := by revert c; decide
theorem off5_6 (c : Dev nD) : k0_off5 c 6#32 = ![(px 5 c).val, 96, 0] := by revert c; decide
theorem off6_6 (c : Dev nD) : k0_off6 c 6#32 = ![(px 5 c).val, 0, 0] := by revert c; decide
theorem sem6 : ((cc0_scratch2.slice (Rect.unit (s := S8) ![6] S1.size inb_S8_S1_6)).squeeze S_ squeezes_S1_S_).sem = sS (sk 5) := by decide
theorem off3_7 (c : Dev nD) : k0_off3 c 7#32 = ![(px 6 c).val] := by revert c; decide
theorem off4_7 (c : Dev nD) : k0_off4 c 7#32 = ![(px 6 c).val, 0, 0] := by revert c; decide
theorem off5_7 (c : Dev nD) : k0_off5 c 7#32 = ![(px 6 c).val, 96, 0] := by revert c; decide
theorem off6_7 (c : Dev nD) : k0_off6 c 7#32 = ![(px 6 c).val, 0, 0] := by revert c; decide
theorem sem7 : ((cc0_scratch2.slice (Rect.unit (s := S8) ![7] S1.size inb_S8_S1_7)).squeeze S_ squeezes_S1_S_).sem = sS (sk 6) := by decide

theorem rsem_of (j : Dev nD) (off : Fin 1 → ℕ) (h : off = ![j.val]) (inb : ∀ a, off a + S1.size a ≤ S8.size a) :
    ((cc0_scratch3.slice (Rect.unit (s := S8) off S1.size inb)).squeeze S_ squeezes_S1_S_).sem = rS j := by
  subst h; revert j; decide

omit [FloatOps F] in
theorem hz2 : (![0, 0] : Fin 2 → Nat) = fun _ => 0 := funext fun a => by fin_cases a <;> rfl
omit [FloatOps F] in
theorem hz3 : (![0, 0, 0] : Fin 3 → Nat) = fun _ => 0 := funext fun a => by fin_cases a <;> rfl

end Cert.Moe

end
-- ==== Proof.Parts.lean ====
/-
`Parts`: the kernel's parts one by one, each from what it takes to what it leaves.
-/
module

public import proofs.«01_k».proof.Proof.Places

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Cells → ℕ) (c : Dev nD)

/-- A whole buffer of device `c` holding `X`. -/
abbrev bufPts (b : Ref sig .tc) (X : Buf (Elt F) (((c : Dev nD) : Thread nD τ).loc b)) : sProp 𝕄 :=
  ((c : Thread nD τ).loc b) ↦{fullShare} X

/-- What a signal to peer `k` takes: the token of the duty it pays and the slot it hands over. -/
def sigRes (k : Fin 7) : sProp 𝕄 := iprop(dutyTok ER (barCell (px k c)) 0 c ∗ barPay (px k c) c)
/-- What a send to peer `k` takes besides the message and the peer's slot: the tokens of the duties it pays. -/
def sndRes (k : Fin 7) : sProp 𝕄 := iprop(dutyTok ER (sendCell c (sk k)) 0 c ∗ dutyTok ER (recvCell (px k c) c) 0 c)
/-- What the wait for peer `k`'s message takes. -/
def rcvRes (k : Fin 7) : sProp 𝕄 := iprop(cred (tallyAt (recvCell c (px k c)) () N) ∗ atPos ER (recvCell c (px k c)) 0 ∅ 0)
/-- and what is left after it. -/
def rcvEnd (k : Fin 7) : sProp 𝕄 := iprop(semVal (recvCell c (px k c)) 0 ∗ recvPay m ρ c (px k c))
/-- What the wait for the end of send `k` takes. -/
def sntRes (k : Fin 7) : sProp 𝕄 := iprop(cred (tallyAt (sendCell c (sk k)) () N) ∗ atPos ER (sendCell c (sk k)) 0 ∅ 0)
/-- and what is left after it. -/
def sntEnd (k : Fin 7) : sProp 𝕄 := iprop(semVal (sendCell c (sk k)) 0 ∗ sendPay c k.val)

/-- Six of the seven signals. -/
theorem part1 (Kt) :
    iprop(records m ρ K ∗ ow c (O₀ c) ∗ (sigRes c 0 ∗ sigRes c 1 ∗ sigRes c 2 ∗ sigRes c 3 ∗ sigRes c 4 ∗ sigRes c 5)
        ∗ (ow c (oBar c [6]) -∗ Kt ⟨c, pw c, SemArray.scalar (sig.barrier 0 rfl), Scalar.muli (Scalar.xori (pw c) 7#32) 1#32⟩))
      ⊢ wp frame (wpE (defs₀ (F := F)) 𝒱₀ (c : Thread nD τ) none) Set.univ
          (k0_part1 xM (Memref.isWhole_whole _) wM (Memref.isWhole_whole _) iM (Memref.isWhole_whole _) eM (Memref.isWhole_whole _) oM (Memref.isWhole_whole _) msgM (Memref.isWhole_whole _) bufM (Memref.isWhole_whole _) cc0_scratch2 cc0_scratch3) Kt := by
  simp only [k0_part1_eq_skeleton]; unfold k0_part1_skel
  simp only [semSignalWord, semWaitWord, storeSubelements, Prog.lift, Prog.bind_op, Prog.bind_ret, Prog.pure_eq_ret, wp_deviceId]
  unfold sigRes
  iintro ⟨#HR, HO, ⟨⟨Ht0, Hp0⟩, ⟨Ht1, Hp1⟩, ⟨Ht2, Hp2⟩, ⟨Ht3, Hp3⟩, ⟨Ht4, Hp4⟩, ⟨Ht5, Hp5⟩⟩, Hk⟩
  iapply (step_signal m ρ K c 0 _ (dev1_eq c) (O₀ c) (oBar c [1, 2, 3, 4, 5, 6]) rfl) $$ [HO Ht0 Hp0]
  · isplitr; · iexact HR
    isplitl [HO]; · iexact HO
    isplitl [Ht0]; · iexact Ht0
    iexact Hp0
  iintro HO
  iapply (step_signal m ρ K c 1 _ (dev2_eq c) (oBar c [1, 2, 3, 4, 5, 6]) (oBar c [2, 3, 4, 5, 6]) rfl) $$ [HO Ht1 Hp1]
  · isplitr; · iexact HR
    isplitl [HO]; · iexact HO
    isplitl [Ht1]; · iexact Ht1
    iexact Hp1
  iintro HO
  iapply (step_signal m ρ K c 2 _ (dev3_eq c) (oBar c [2, 3, 4, 5, 6]) (oBar c [3, 4, 5, 6]) rfl) $$ [HO Ht2 Hp2]
  · isplitr; · iexact HR
    isplitl [HO]; · iexact HO
    isplitl [Ht2]; · iexact Ht2
    iexact Hp2
  iintro HO
  iapply (step_signal m ρ K c 3 _ (dev4_eq c) (oBar c [3, 4, 5, 6]) (oBar c [4, 5, 6]) rfl) $$ [HO Ht3 Hp3]
  · isplitr; · iexact HR
    isplitl [HO]; · iexact HO
    isplitl [Ht3]; · iexact Ht3
    iexact Hp3
  iintro HO
  iapply (step_signal m ρ K c 4 _ (dev5_eq c) (oBar c [4, 5, 6]) (oBar c [5, 6]) rfl) $$ [HO Ht4 Hp4]
  · isplitr; · iexact HR
    isplitl [HO]; · iexact HO
    isplitl [Ht4]; · iexact Ht4
    iexact Hp4
  iintro HO
  iapply (step_signal m ρ K c 5 _ (dev6_eq c) (oBar c [5, 6]) (oBar c [6]) rfl) $$ [HO Ht5 Hp5]
  · isplitr; · iexact HR
    isplitl [HO]; · iexact HO
    isplitl [Ht5]; · iexact Ht5
    iexact Hp5
  iintro HO
  rw [wp_ret]; imodintro; iapply Hk; iexact HO

/-- The last signal, and the loads of the tokens, the router's weights and the two columns of indices. -/
theorem part2 (v23 : BitVec 32) (Kt) :
    iprop(records m ρ K ∗ ow c (oBar c [6]) ∗ sigRes c 6
        ∗ bufPts c cc0_stg0_0 (X0 m ρ c) ∗ bufPts c cc0_stg1_0 (X1 m ρ c) ∗ bufPts c cc0_stg2_0 (X2 m ρ c)
        ∗ ((ow c (oRecv c ord) ∗ bufPts c cc0_stg0_0 (X0 m ρ c) ∗ bufPts c cc0_stg1_0 (X1 m ρ c) ∗ bufPts c cc0_stg2_0 (X2 m ρ c))
          -∗ Kt ⟨k0_pay1 (X0 m ρ c), k0_pay3 (F := F) (I0 m ρ c), k0_pay4 (F := F) (I1 m ρ c), k0_pay5 (X0 m ρ c) (X1 m ρ c) (I0 m ρ c),
            k0_pay6 (X0 m ρ c) (X1 m ρ c) (I1 m ρ c), k0_pay7 (X0 m ρ c) (X1 m ρ c) (I0 m ρ c) (I1 m ρ c),
            Scalar.addi (Scalar.muli (pw c) 2#32) 0#32, k0_pay8 (pw c) (X0 m ρ c) (X1 m ρ c) (I0 m ρ c) (I1 m ρ c)⟩))
      ⊢ wp frame (wpE (defs₀ (F := F)) 𝒱₀ (c : Thread nD τ) none) Set.univ
          (k0_part2 xM (Memref.isWhole_whole _) wM (Memref.isWhole_whole _) iM (Memref.isWhole_whole _) eM (Memref.isWhole_whole _) oM (Memref.isWhole_whole _) msgM (Memref.isWhole_whole _) bufM (Memref.isWhole_whole _) cc0_scratch2 cc0_scratch3 c (pw c) (SemArray.scalar (sig.barrier 0 rfl)) v23) Kt := by
  simp only [k0_part2_eq_skeleton]; unfold k0_part2_skel
  simp only [semSignalWord, semWaitWord, storeSubelements, Prog.lift, Prog.bind_op, Prog.bind_ret, Prog.pure_eq_ret, wp_deviceId]
  unfold sigRes
  iintro ⟨#HR, HO, ⟨Ht6, Hp6⟩, Hx, Hw, Hi, Hk⟩
  iapply (step_signal m ρ K c 6 _ (dev7_eq c) (oBar c [6]) (oRecv c ord) rfl) $$ [HO Ht6 Hp6]
  · isplitr; · iexact HR
    isplitl [HO]; · iexact HO
    isplitl [Ht6]; · iexact Ht6
    iexact Hp6
  iintro HO
  iapply (wp_load 𝒱₀ (c : Thread nD τ) none Set.univ (m := xM) (Finset.subset_univ _)) $$ Hx; iintro Hx
  rw [show (xM).view.readAt (Elt F) _ (X0 m ρ c) = X0 m ρ c from Memref.readAt_unit_zero (Elt F) cc0_stg0_0 hz2 _ _]
  iapply (wp_load 𝒱₀ (c : Thread nD τ) none Set.univ (m := wM) (Finset.subset_univ _)) $$ Hw; iintro Hw
  rw [show (wM).view.readAt (Elt F) _ (X1 m ρ c) = X1 m ρ c from Memref.readAt_unit_zero (Elt F) cc0_stg1_0 hz2 _ _]
  iapply (wp_load 𝒱₀ (c : Thread nD τ) none Set.univ (m := iM) (Finset.subset_univ _)) $$ Hi; iintro Hi
  rw [show (iM).view.readAt (Elt F) _ (X2 m ρ c) = I0 m ρ c from rfl]
  iapply (wp_load 𝒱₀ (c : Thread nD τ) none Set.univ (m := iM) (Finset.subset_univ _)) $$ Hi; iintro Hi
  rw [show (iM).view.readAt (Elt F) _ (X2 m ρ c) = I1 m ρ c from rfl]
  rw [wp_ret]; imodintro; iapply Hk
  isplitl [HO]; · iexact HO
  isplitl [Hx]; · iexact Hx
  isplitl [Hw]; · iexact Hw
  iexact Hi

/-- The load of the device's two experts. -/
theorem part3 (v2 : BitVec 32) (v26 : FVec F S256x128 .bf16) (v41 v43 : IVec S256x1 32) (v49 v55 v56 : FVec F S256x1 .f32) (v58 : BitVec 32)
    (v63 : FVec F S256x1 .f32) (Kt) :
    iprop(bufPts c cc0_stg3_0 (X3 m ρ c)
        ∗ (bufPts c cc0_stg3_0 (X3 m ρ c)
          -∗ Kt ⟨k0_pay9 v2 v26 v41 v43 v49 v55 v56 v58 v63 (X3 m ρ c), k0_pay10 v2 v41 v43, k0_pay11 (F := F) v2 v41 v43,
            iota .tc S256x256 32 [1] iota_S256x256_d1_w32, k0_pay12 (F := F), constant S256x1 .f32 0x00000000#32⟩))
      ⊢ wp frame (wpE (defs₀ (F := F)) 𝒱₀ (c : Thread nD τ) none) Set.univ
          (k0_part3 xM (Memref.isWhole_whole _) wM (Memref.isWhole_whole _) iM (Memref.isWhole_whole _) eM (Memref.isWhole_whole _) oM (Memref.isWhole_whole _) msgM (Memref.isWhole_whole _) bufM (Memref.isWhole_whole _) cc0_scratch2 cc0_scratch3 v2 v26 v41 v43 v49 v55 v56 v58 v63) Kt := by
  simp only [k0_part3_eq_skeleton]; unfold k0_part3_skel
  simp only [semSignalWord, semWaitWord, storeSubelements, Prog.lift, Prog.bind_op, Prog.bind_ret, Prog.pure_eq_ret, wp_deviceId]
  iintro ⟨He, Hk⟩
  iapply (wp_load 𝒱₀ (c : Thread nD τ) none Set.univ (m := eM) (Finset.subset_univ _)) $$ He; iintro He
  rw [show (eM).view.readAt (Elt F) _ (X3 m ρ c) = X3 m ρ c from Memref.readAt_unit_zero (Elt F) cc0_stg3_0 hz3 _ _]
  rw [wp_ret]; imodintro; iapply Hk; iexact He

/-- The two stores into the message buffer leave the device's message. -/
theorem msgOK_stored (f : Vec F S112x256 .bf16) (old : Vec F S2x256 .bf16) (rows : FVec F S96x256 .bf16) (ids : FVec F S1x256 .bf16)
    (hrows : rows = rowsA m ρ c) (hids : ids = idsA m ρ c) :
    MsgOK m ρ c (((msgM).access (Rect.unit (s := S112x256) ![96, 0] S2x256.size inb_S112x256_S2x256_96_0)).write (Elt F)
      (((msgM).access (Rect.unit (s := S112x256) ![0, 0] S96x256.size inb_S112x256_S96x256_0_0)).write (Elt F) f rows Finset.univ)
      (updateSlice old ids ![0, 0] slices_S2x256_S1x256_0_0) Finset.univ) := by
  subst hrows hids
  constructor
  · intro r k
    refine (View.write_of_not_mem (Val := Elt F) (v := (msgM).access (Rect.unit (s := S112x256) ![96, 0] S2x256.size inb_S112x256_S2x256_96_0)) _ _ _ ?_).trans ?_
    · rw [View.setOn_univ, View.set_slice_whole, Rect.mem_set_unit]
      intro h; have h1 : 96 ≤ r.val := (h 0).1; have h2 : r.val < 96 := r.isLt; omega
    · have he : ix2 (⟨r.val, by omega⟩ : Fin 112) k = ((msgM).access (Rect.unit (s := S112x256) ![0, 0] S96x256.size inb_S112x256_S96x256_0_0)).emb (ix2 r k) := by
        funext a; fin_cases a
        · exact Fin.ext (by show r.val = 0 + 1 * r.val; omega)
        · exact Fin.ext (by show k.val = 0 + 1 * k.val; omega)
      rw [he]; exact View.write_emb_of_mem _ _ (Finset.mem_univ _)
  · intro k
    have he : ix2 (⟨96, by omega⟩ : Fin 112) k = ((msgM).access (Rect.unit (s := S112x256) ![96, 0] S2x256.size inb_S112x256_S2x256_96_0)).emb (ix2 (0 : Fin 2) k) := by
      funext a; fin_cases a
      · exact Fin.ext rfl
      · exact Fin.ext (by show k.val = 0 + 1 * k.val; omega)
    rw [he]
    refine (View.write_emb_of_mem _ _ (Finset.mem_univ _)).trans ?_
    unfold updateSlice
    rw [dif_pos (by intro a; fin_cases a; · exact ⟨Nat.le_refl _, Nat.one_pos⟩
                    · exact ⟨Nat.zero_le _, by show k.val < 0 + 256; omega⟩)]
    refine congrArg (idsA m ρ c) (funext fun a => ?_)
    fin_cases a
    · exact Fin.ext rfl
    · exact Fin.ext (by show k.val - 0 = k.val; omega)

/-- The message packed, the barrier passed, the first send issued. -/
theorem part4 (v95 : FVec F S256x256 .f32) (v104 : IVec S256x1 1) (v106 : FVec F S256x1 .f32) (v108 : IVec S256x256 32) (v111 : FVec F S256x256 .f32)
    (cst : FVec F S256x1 .f32) (hrows : k0_pay14 v95 v104 v106 v108 v111 cst = rowsA m ρ c) (hids : k0_pay15 v104 v106 v108 v111 cst = idsA m ρ c)
    (f₀ : Buf (Elt F) ((msgM).view.loc (c : Thread nD τ))) (Kt) :
    iprop(records m ρ K ∗ levAts L lv ∗ ow c (oRecv c ord) ∗ bufPts c cc0_scratch0 f₀
        ∗ cred (tallyAt (barCell c) () 7) ∗ atPos ER (barCell c) 0 ∅ 0 ∗ sndRes c 0
        ∗ (∀ f, (⌜MsgOK m ρ c f⌝ ∗ ow c (oRecv c [2, 3, 1, 4, 6, 5]) ∗ semVal (barCell c) 0 ∗ cred (tallyAt (sendCell c (sk 0)) () N)
            ∗ msgPts c (Transfers.shareDrop fullShare 7) f
            ∗ ((msgPts c (Transfers.shareTokN fullShare 1) f ∗ msgPts c (Transfers.shareTokN fullShare 2) f ∗ msgPts c (Transfers.shareTokN fullShare 3) f
              ∗ msgPts c (Transfers.shareTokN fullShare 4) f ∗ msgPts c (Transfers.shareTokN fullShare 5) f ∗ msgPts c (Transfers.shareTokN fullShare 6) f)
            ∗ (barPay c (px 1 c) ∗ barPay c (px 2 c) ∗ barPay c (px 3 c) ∗ barPay c (px 4 c) ∗ barPay c (px 5 c) ∗ barPay c (px 6 c))))
          -∗ Kt 3#32))
      ⊢ wp frame (wpE (defs₀ (F := F)) 𝒱₀ (c : Thread nD τ) none) Set.univ
          (k0_part4 xM (Memref.isWhole_whole _) wM (Memref.isWhole_whole _) iM (Memref.isWhole_whole _) eM (Memref.isWhole_whole _) oM (Memref.isWhole_whole _) msgM (Memref.isWhole_whole _) bufM (Memref.isWhole_whole _) cc0_scratch2 cc0_scratch3 c (pw c) (SemArray.scalar (sig.barrier 0 rfl)) v95 v104 v106 v108 v111 cst) Kt := by
  simp only [k0_part4_eq_skeleton]; unfold k0_part4_skel
  simp only [semSignalWord, semWaitWord, storeSubelements, Prog.lift, Prog.bind_op, Prog.bind_ret, Prog.pure_eq_ret, wp_deviceId]
  unfold sndRes
  iintro ⟨#HR, #Hlev, HO, Hm, Hc, Ha, ⟨Ht, Hu⟩, Hk⟩
  iapply (wp_load 𝒱₀ (c : Thread nD τ) none Set.univ (m := msgM) (Finset.subset_univ _)) $$ Hm; iintro Hm
  iapply (wp_store 𝒱₀ (c : Thread nD τ) none Set.univ (m := msgM) (r := Rect.unit (s := S112x256) ![0, 0] S96x256.size inb_S112x256_S96x256_0_0) (Mk := Finset.univ) (Finset.subset_univ _)) $$ Hm; iintro Hm
  iapply (wp_load 𝒱₀ (c : Thread nD τ) none Set.univ (m := msgM) (Finset.subset_univ _)) $$ Hm; iintro Hm
  iapply (wp_load 𝒱₀ (c : Thread nD τ) none Set.univ (m := msgM) (Finset.subset_univ _)) $$ Hm; iintro Hm
  iapply (wp_store 𝒱₀ (c : Thread nD τ) none Set.univ (m := msgM) (r := Rect.unit (s := S112x256) ![96, 0] S2x256.size inb_S112x256_S2x256_96_0) (Mk := Finset.univ) (Finset.subset_univ _)) $$ Hm; iintro Hm
  have hf := msgOK_stored m ρ c f₀ ((msgM).view.readAt (Elt F) (Rect.unit (s := S112x256) ![96, 0] S2x256.size inb_S112x256_S2x256_96_0).toLoadRect
    (((msgM).access (Rect.unit (s := S112x256) ![0, 0] S96x256.size inb_S112x256_S96x256_0_0)).write (Elt F) f₀ (k0_pay14 v95 v104 v106 v108 v111 cst) Finset.univ))
    _ _ hrows hids
  generalize hfe : ((msgM).access (Rect.unit (s := S112x256) ![96, 0] S2x256.size inb_S112x256_S2x256_96_0)).write (Elt F) _ _ Finset.univ = f at hf
  ihave Hs := (Transfers.pointsTo_toks_split fullShare 7) $$ Hm
  rw [bigSep_fin7]
  icases Hs with ⟨Hd, H0, H1, H2, H3, H4, H5, H6⟩
  iapply (step_barrier m ρ K c) $$ [HO Hc Ha]
  · isplitr; · iexact HR
    isplitr; · iexact Hlev
    isplitl [HO]; · iexact HO
    isplitl [Hc]; · iexact Hc
    iexact Ha
  iintro ⟨HO, Hz, Hb0, Hbs⟩
  iapply (step_send m ρ K c 0 _ (dev8_eq c) _ _ sem1 (rsem_of c _ (k0_off1_eq c) _) _ (k0_off2_eq c) f hf (oRecv c ord) (oRecv c [2, 3, 1, 4, 6, 5]) rfl) $$ [HO H0 Hb0 Ht Hu]
  · isplitr; · iexact HR
    isplitl [HO]; · iexact HO
    isplitl [H0]; · unfold msgPts; rw [View.set_whole]; iexact H0
    isplitl [Hb0]; · iexact Hb0
    isplitl [Ht]; · iexact Ht
    iexact Hu
  iintro ⟨HO, Hc⟩
  rw [wp_ret]; imodintro; iapply Hk $$ %f
  unfold msgPts; rw [View.set_whole]
  isplitr; · (ipureintro; exact hf)
  isplitl [HO]; · iexact HO
  isplitl [Hz]; · iexact Hz
  isplitl [Hc]; · iexact Hc
  isplitl [Hd]; · iexact Hd
  isplitl [H1 H2 H3 H4 H5 H6]
  · isplitl [H1]; · iexact H1
    isplitl [H2]; · iexact H2
    isplitl [H3]; · iexact H3
    isplitl [H4]; · iexact H4
    isplitl [H5]; · iexact H5
    iexact H6
  iexact Hbs

/-- Three more sends. -/
theorem part5 (v2 w : BitVec 32) (f : Buf (Elt F) ((msgM).view.loc (c : Thread nD τ))) (hf : MsgOK m ρ c f) (Kt) :
    iprop(records m ρ K ∗ ow c (oRecv c [2, 3, 1, 4, 6, 5])
        ∗ (msgPts c (Transfers.shareTokN fullShare 2) f ∗ barPay c (px 2 c) ∗ sndRes c 2) ∗ (msgPts c (Transfers.shareTokN fullShare 3) f ∗ barPay c (px 3 c) ∗ sndRes c 3) ∗ (msgPts c (Transfers.shareTokN fullShare 1) f ∗ barPay c (px 1 c) ∗ sndRes c 1)
        ∗ ((ow c (oRecv c [4, 6, 5]) ∗ cred (tallyAt (sendCell c (sk 2)) () N) ∗ cred (tallyAt (sendCell c (sk 3)) () N) ∗ cred (tallyAt (sendCell c (sk 1)) () N)) -∗ Kt ⟨⟩))
      ⊢ wp frame (wpE (defs₀ (F := F)) 𝒱₀ (c : Thread nD τ) none) Set.univ
          (k0_part5 xM (Memref.isWhole_whole _) wM (Memref.isWhole_whole _) iM (Memref.isWhole_whole _) eM (Memref.isWhole_whole _) oM (Memref.isWhole_whole _) msgM (Memref.isWhole_whole _) bufM (Memref.isWhole_whole _) cc0_scratch2 cc0_scratch3 c v2 w) Kt := by
  simp only [k0_part5_eq_skeleton]; unfold k0_part5_skel
  simp only [semSignalWord, semWaitWord, storeSubelements, Prog.lift, Prog.bind_op, Prog.bind_ret, Prog.pure_eq_ret, wp_deviceId]
  unfold sndRes
  iintro ⟨#HR, HO, ⟨Hm2, Hb2, Ht2, Hu2⟩, ⟨Hm3, Hb3, Ht3, Hu3⟩, ⟨Hm1, Hb1, Ht1, Hu1⟩, Hk⟩
  iapply (step_send m ρ K c 2 _ (dev9_eq c) _ _ sem3 (rsem_of c _ (k0_off1_eq c) _) _ (k0_off2_eq c) f hf (oRecv c [2, 3, 1, 4, 6, 5]) (oRecv c [3, 1, 4, 6, 5]) rfl) $$ [HO Hm2 Hb2 Ht2 Hu2]
  · isplitr; · iexact HR
    isplitl [HO]; · iexact HO
    isplitl [Hm2]; · iexact Hm2
    isplitl [Hb2]; · iexact Hb2
    isplitl [Ht2]; · iexact Ht2
    iexact Hu2
  iintro ⟨HO, Hc2⟩
  iapply (step_send m ρ K c 3 _ (dev10_eq c) _ _ sem4 (rsem_of c _ (k0_off1_eq c) _) _ (k0_off2_eq c) f hf (oRecv c [3, 1, 4, 6, 5]) (oRecv c [1, 4, 6, 5]) rfl) $$ [HO Hm3 Hb3 Ht3 Hu3]
  · isplitr; · iexact HR
    isplitl [HO]; · iexact HO
    isplitl [Hm3]; · iexact Hm3
    isplitl [Hb3]; · iexact Hb3
    isplitl [Ht3]; · iexact Ht3
    iexact Hu3
  iintro ⟨HO, Hc3⟩
  iapply (step_send m ρ K c 1 _ (dev11_eq c) _ _ sem2 (rsem_of c _ (k0_off1_eq c) _) _ (k0_off2_eq c) f hf (oRecv c [1, 4, 6, 5]) (oRecv c [4, 6, 5]) rfl) $$ [HO Hm1 Hb1 Ht1 Hu1]
  · isplitr; · iexact HR
    isplitl [HO]; · iexact HO
    isplitl [Hm1]; · iexact Hm1
    isplitl [Hb1]; · iexact Hb1
    isplitl [Ht1]; · iexact Ht1
    iexact Hu1
  iintro ⟨HO, Hc1⟩
  rw [wp_ret]; imodintro; iapply Hk
  isplitl [HO]; · iexact HO
  isplitl [Hc2]; · iexact Hc2
  isplitl [Hc3]; · iexact Hc3
  iexact Hc1

omit [FloatOps F] in
theorem ow_nil : (ow c (oRecv c []) : sProp 𝕄) ⊢ ow c 0 := BI.Entails.refl _

/-- The last three sends, the first message waited for, its index row read. -/
theorem part6 (v2 : BitVec 32) (f : Buf (Elt F) ((msgM).view.loc (c : Thread nD τ))) (hf : MsgOK m ρ c f) (Kt) :
    iprop(records m ρ K ∗ ow c (oRecv c [4, 6, 5])
        ∗ (msgPts c (Transfers.shareTokN fullShare 4) f ∗ barPay c (px 4 c) ∗ sndRes c 4) ∗ (msgPts c (Transfers.shareTokN fullShare 6) f ∗ barPay c (px 6 c) ∗ sndRes c 6) ∗ (msgPts c (Transfers.shareTokN fullShare 5) f ∗ barPay c (px 5 c) ∗ sndRes c 5) ∗ rcvRes c 0
        ∗ ((ow c 0 ∗ (cred (tallyAt (sendCell c (sk 4)) () N) ∗ cred (tallyAt (sendCell c (sk 6)) () N) ∗ cred (tallyAt (sendCell c (sk 5)) () N)) ∗ rcvEnd m ρ c 0)
          -∗ Kt ⟨k0_pay16 (F := F), Scalar.xori v2 1#32, k0_pay17 (idsV m ρ (px 0 c))⟩))
      ⊢ wp frame (wpE (defs₀ (F := F)) 𝒱₀ (c : Thread nD τ) none) Set.univ
          (k0_part6 xM (Memref.isWhole_whole _) wM (Memref.isWhole_whole _) iM (Memref.isWhole_whole _) eM (Memref.isWhole_whole _) oM (Memref.isWhole_whole _) msgM (Memref.isWhole_whole _) bufM (Memref.isWhole_whole _) cc0_scratch2 cc0_scratch3 c v2) Kt := by
  simp only [k0_part6_eq_skeleton]; unfold k0_part6_skel
  simp only [semSignalWord, semWaitWord, storeSubelements, Prog.lift, Prog.bind_op, Prog.bind_ret, Prog.pure_eq_ret, wp_deviceId]
  unfold sndRes rcvRes rcvEnd
  iintro ⟨#HR, HO, ⟨Hm4, Hb4, Ht4, Hu4⟩, ⟨Hm6, Hb6, Ht6, Hu6⟩, ⟨Hm5, Hb5, Ht5, Hu5⟩, ⟨Hc0, Ha0⟩, Hk⟩
  iapply (step_send m ρ K c 4 _ (dev12_eq c) _ _ sem5 (rsem_of c _ (k0_off1_eq c) _) _ (k0_off2_eq c) f hf (oRecv c [4, 6, 5]) (oRecv c [6, 5]) rfl) $$ [HO Hm4 Hb4 Ht4 Hu4]
  · isplitr; · iexact HR
    isplitl [HO]; · iexact HO
    isplitl [Hm4]; · iexact Hm4
    isplitl [Hb4]; · iexact Hb4
    isplitl [Ht4]; · iexact Ht4
    iexact Hu4
  iintro ⟨HO, Hc4⟩
  iapply (step_send m ρ K c 6 _ (dev13_eq c) _ _ sem7 (rsem_of c _ (k0_off1_eq c) _) _ (k0_off2_eq c) f hf (oRecv c [6, 5]) (oRecv c [5]) rfl) $$ [HO Hm6 Hb6 Ht6 Hu6]
  · isplitr; · iexact HR
    isplitl [HO]; · iexact HO
    isplitl [Hm6]; · iexact Hm6
    isplitl [Hb6]; · iexact Hb6
    isplitl [Ht6]; · iexact Ht6
    iexact Hu6
  iintro ⟨HO, Hc6⟩
  iapply (step_send m ρ K c 5 _ (dev14_eq c) _ _ sem6 (rsem_of c _ (k0_off1_eq c) _) _ (k0_off2_eq c) f hf (oRecv c [5]) (oRecv c []) rfl) $$ [HO Hm5 Hb5 Ht5 Hu5]
  · isplitr; · iexact HR
    isplitl [HO]; · iexact HO
    isplitl [Hm5]; · iexact Hm5
    isplitl [Hb5]; · iexact Hb5
    isplitl [Ht5]; · iexact Ht5
    iexact Hu5
  iintro ⟨HO, Hc5⟩
  ihave HO := (ow_nil c) $$ HO
  iapply (step_recv m ρ K c 0 _ (rsem_of _ _ (off3_1 c) _) _ (off4_1 c)) $$ [HO Hc0 Ha0]
  · isplitr; · iexact HR
    isplitl [HO]; · iexact HO
    isplitl [Hc0]; · iexact Hc0
    iexact Ha0
  iintro ⟨HO, Hz0, Hp0⟩
  iapply (step_ids m ρ c (px 0 c) (px 0 c) rfl _ (off5_1 c)) $$ Hp0; iintro Hp0
  rw [wp_ret]; imodintro; iapply Hk
  isplitl [HO]; · iexact HO
  isplitl [Hc4 Hc5 Hc6]
  · isplitl [Hc4]; · iexact Hc4
    isplitl [Hc6]; · iexact Hc6
    iexact Hc5
  isplitl [Hz0]; · iexact Hz0
  iexact Hp0

/-- The first message's rows, the second message, the third waited for. -/
theorem part7 (v2 : BitVec 32) (v95 : FVec F S256x256 .f32) (v204 : FVec F S256x1 .bf16) (v205 : BitVec 32) (v218 : IVec S256x256 32) (Kt) :
    iprop(records m ρ K ∗ ow c 0 ∗ rcvEnd m ρ c 0 ∗ rcvRes c 2 ∗ rcvRes c 3
        ∗ ((ow c 0 ∗ rcvEnd m ρ c 0 ∗ rcvEnd m ρ c 2 ∗ rcvEnd m ρ c 3)
          -∗ Kt ⟨k0_pay18 v95 v204 v218 (rowsV m ρ (px 0 c)) (idsV m ρ (px 2 c)) (rowsV m ρ (px 2 c)), Scalar.xori v2 4#32⟩))
      ⊢ wp frame (wpE (defs₀ (F := F)) 𝒱₀ (c : Thread nD τ) none) Set.univ
          (k0_part7 xM (Memref.isWhole_whole _) wM (Memref.isWhole_whole _) iM (Memref.isWhole_whole _) eM (Memref.isWhole_whole _) oM (Memref.isWhole_whole _) msgM (Memref.isWhole_whole _) bufM (Memref.isWhole_whole _) cc0_scratch2 cc0_scratch3 c v2 v95 v204 v205 v218) Kt := by
  simp only [k0_part7_eq_skeleton]; unfold k0_part7_skel
  simp only [semSignalWord, semWaitWord, storeSubelements, Prog.lift, Prog.bind_op, Prog.bind_ret, Prog.pure_eq_ret, wp_deviceId]
  unfold rcvRes rcvEnd
  iintro ⟨#HR, HO, ⟨Hz0, Hp0⟩, ⟨Hc2, Ha2⟩, ⟨Hc3, Ha3⟩, Hk⟩
  iapply (step_rows m ρ c (px 0 c) (px 0 c) rfl _ (off6_1 c)) $$ Hp0; iintro Hp0
  iapply (step_recv m ρ K c 2 _ (rsem_of _ _ (off3_3 c) _) _ (off4_3 c)) $$ [HO Hc2 Ha2]
  · isplitr; · iexact HR
    isplitl [HO]; · iexact HO
    isplitl [Hc2]; · iexact Hc2
    iexact Ha2
  iintro ⟨HO, Hz2, Hp2⟩
  iapply (step_ids m ρ c (px 2 c) (px 2 c) rfl _ (off5_3 c)) $$ Hp2; iintro Hp2
  iapply (step_rows m ρ c (px 2 c) (px 2 c) rfl _ (off6_3 c)) $$ Hp2; iintro Hp2
  iapply (step_recv m ρ K c 3 _ (rsem_of _ _ (off3_4 c) _) _ (off4_4 c)) $$ [HO Hc3 Ha3]
  · isplitr; · iexact HR
    isplitl [HO]; · iexact HO
    isplitl [Hc3]; · iexact Hc3
    iexact Ha3
  iintro ⟨HO, Hz3, Hp3⟩
  rw [wp_ret]; imodintro; iapply Hk
  isplitl [HO]; · iexact HO
  isplitl [Hz0 Hp0]
  · isplitl [Hz0]; · iexact Hz0
    iexact Hp0
  isplitl [Hz2 Hp2]
  · isplitl [Hz2]; · iexact Hz2
    iexact Hp2
  isplitl [Hz3]; · iexact Hz3
  iexact Hp3

/-- The third message, the fourth. -/
theorem part8 (v2 : BitVec 32) (v204 : FVec F S256x1 .bf16) (v248 : FVec F S256x256 .f32) (v249 : BitVec 32) (Kt) :
    iprop(records m ρ K ∗ ow c 0 ∗ rcvEnd m ρ c 3 ∗ rcvRes c 1
        ∗ ((ow c 0 ∗ rcvEnd m ρ c 3 ∗ rcvEnd m ρ c 1)
          -∗ Kt ⟨k0_pay19 v204 v248 (idsV m ρ (px 3 c)) (rowsV m ρ (px 3 c)) (idsV m ρ (px 1 c)) (rowsV m ρ (px 1 c)), Scalar.xori v2 5#32⟩))
      ⊢ wp frame (wpE (defs₀ (F := F)) 𝒱₀ (c : Thread nD τ) none) Set.univ
          (k0_part8 xM (Memref.isWhole_whole _) wM (Memref.isWhole_whole _) iM (Memref.isWhole_whole _) eM (Memref.isWhole_whole _) oM (Memref.isWhole_whole _) msgM (Memref.isWhole_whole _) bufM (Memref.isWhole_whole _) cc0_scratch2 cc0_scratch3 c v2 v204 v248 v249) Kt := by
  simp only [k0_part8_eq_skeleton]; unfold k0_part8_skel
  simp only [semSignalWord, semWaitWord, storeSubelements, Prog.lift, Prog.bind_op, Prog.bind_ret, Prog.pure_eq_ret, wp_deviceId]
  unfold rcvRes rcvEnd
  iintro ⟨#HR, HO, ⟨Hz3, Hp3⟩, ⟨Hc1, Ha1⟩, Hk⟩
  iapply (step_ids m ρ c (px 3 c) (px 3 c) rfl _ (off5_4 c)) $$ Hp3; iintro Hp3
  iapply (step_rows m ρ c (px 3 c) (px 3 c) rfl _ (off6_4 c)) $$ Hp3; iintro Hp3
  iapply (step_recv m ρ K c 1 _ (rsem_of _ _ (off3_2 c) _) _ (off4_2 c)) $$ [HO Hc1 Ha1]
  · isplitr; · iexact HR
    isplitl [HO]; · iexact HO
    isplitl [Hc1]; · iexact Hc1
    iexact Ha1
  iintro ⟨HO, Hz1, Hp1⟩
  iapply (step_ids m ρ c (px 1 c) (px 1 c) rfl _ (off5_2 c)) $$ Hp1; iintro Hp1
  iapply (step_rows m ρ c (px 1 c) (px 1 c) rfl _ (off6_2 c)) $$ Hp1; iintro Hp1
  rw [wp_ret]; imodintro; iapply Hk
  isplitl [HO]; · iexact HO
  isplitl [Hz3 Hp3]
  · isplitl [Hz3]; · iexact Hz3
    iexact Hp3
  isplitl [Hz1]; · iexact Hz1
  iexact Hp1

/-- The fifth message, the sixth. -/
theorem part9 (v2 : BitVec 32) (v204 : FVec F S256x1 .bf16) (v292 : FVec F S256x256 .f32) (v293 : BitVec 32) (Kt) :
    iprop(records m ρ K ∗ ow c 0 ∗ rcvRes c 4 ∗ rcvRes c 6
        ∗ ((ow c 0 ∗ rcvEnd m ρ c 4 ∗ rcvEnd m ρ c 6)
          -∗ Kt ⟨k0_pay20 v204 v292 (idsV m ρ (px 4 c)) (rowsV m ρ (px 4 c)), k0_pay21 v204 (idsV m ρ (px 6 c)) (rowsV m ρ (px 6 c))⟩))
      ⊢ wp frame (wpE (defs₀ (F := F)) 𝒱₀ (c : Thread nD τ) none) Set.univ
          (k0_part9 xM (Memref.isWhole_whole _) wM (Memref.isWhole_whole _) iM (Memref.isWhole_whole _) eM (Memref.isWhole_whole _) oM (Memref.isWhole_whole _) msgM (Memref.isWhole_whole _) bufM (Memref.isWhole_whole _) cc0_scratch2 cc0_scratch3 c v2 v204 v292 v293) Kt := by
  simp only [k0_part9_eq_skeleton]; unfold k0_part9_skel
  simp only [semSignalWord, semWaitWord, storeSubelements, Prog.lift, Prog.bind_op, Prog.bind_ret, Prog.pure_eq_ret, wp_deviceId]
  unfold rcvRes rcvEnd
  iintro ⟨#HR, HO, ⟨Hc4, Ha4⟩, ⟨Hc6, Ha6⟩, Hk⟩
  iapply (step_recv m ρ K c 4 _ (rsem_of _ _ (off3_5 c) _) _ (off4_5 c)) $$ [HO Hc4 Ha4]
  · isplitr; · iexact HR
    isplitl [HO]; · iexact HO
    isplitl [Hc4]; · iexact Hc4
    iexact Ha4
  iintro ⟨HO, Hz4, Hp4⟩
  iapply (step_ids m ρ c (px 4 c) (px 4 c) rfl _ (off5_5 c)) $$ Hp4; iintro Hp4
  iapply (step_rows m ρ c (px 4 c) (px 4 c) rfl _ (off6_5 c)) $$ Hp4; iintro Hp4
  iapply (step_recv m ρ K c 6 _ (rsem_of _ _ (off3_7 c) _) _ (off4_7 c)) $$ [HO Hc6 Ha6]
  · isplitr; · iexact HR
    isplitl [HO]; · iexact HO
    isplitl [Hc6]; · iexact Hc6
    iexact Ha6
  iintro ⟨HO, Hz6, Hp6⟩
  iapply (step_ids m ρ c (px 6 c) (px 6 c) rfl _ (off5_7 c)) $$ Hp6; iintro Hp6
  iapply (step_rows m ρ c (px 6 c) (px 6 c) rfl _ (off6_7 c)) $$ Hp6; iintro Hp6
  rw [wp_ret]; imodintro; iapply Hk
  isplitl [HO]; · iexact HO
  isplitl [Hz4 Hp4]
  · isplitl [Hz4]; · iexact Hz4
    iexact Hp4
  isplitl [Hz6]; · iexact Hz6
  iexact Hp6

/-- The seventh message, the result stored, the first two sends waited for. -/
theorem part10 (v2 : BitVec 32) (v204 : FVec F S256x1 .bf16) (v314 v335 : FVec F S256x256 .f32)
    (g : Buf (Elt F) ((oM).view.loc (c : Thread nD τ))) (Kt) :
    iprop(records m ρ K ∗ ow c 0 ∗ rcvRes c 5 ∗ bufPts c cc0_stg4_0 g ∗ sntRes c 0 ∗ sntRes c 2
        ∗ ((ow c 0 ∗ rcvEnd m ρ c 5 ∗ bufPts c cc0_stg4_0 (k0_pay22 v204 v314 v335 (idsV m ρ (px 5 c)) (rowsV m ρ (px 5 c))) ∗ sntEnd c 0 ∗ sntEnd c 2) -∗ Kt ⟨⟩))
      ⊢ wp frame (wpE (defs₀ (F := F)) 𝒱₀ (c : Thread nD τ) none) Set.univ
          (k0_part10 xM (Memref.isWhole_whole _) wM (Memref.isWhole_whole _) iM (Memref.isWhole_whole _) eM (Memref.isWhole_whole _) oM (Memref.isWhole_whole _) msgM (Memref.isWhole_whole _) bufM (Memref.isWhole_whole _) cc0_scratch2 cc0_scratch3 c v2 v204 v314 v335) Kt := by
  simp only [k0_part10_eq_skeleton]; unfold k0_part10_skel
  simp only [semSignalWord, semWaitWord, storeSubelements, Prog.lift, Prog.bind_op, Prog.bind_ret, Prog.pure_eq_ret, wp_deviceId]
  unfold rcvRes rcvEnd sntRes sntEnd
  iintro ⟨#HR, HO, ⟨Hc5, Ha5⟩, Ho, ⟨Hc0, Ha0⟩, ⟨Hc2, Ha2⟩, Hk⟩
  iapply (step_recv m ρ K c 5 _ (rsem_of _ _ (off3_6 c) _) _ (off4_6 c)) $$ [HO Hc5 Ha5]
  · isplitr; · iexact HR
    isplitl [HO]; · iexact HO
    isplitl [Hc5]; · iexact Hc5
    iexact Ha5
  iintro ⟨HO, Hz5, Hp5⟩
  iapply (step_ids m ρ c (px 5 c) (px 5 c) rfl _ (off5_6 c)) $$ Hp5; iintro Hp5
  iapply (step_rows m ρ c (px 5 c) (px 5 c) rfl _ (off6_6 c)) $$ Hp5; iintro Hp5
  iapply (wp_load 𝒱₀ (c : Thread nD τ) none Set.univ (m := oM) (Finset.subset_univ _)) $$ Ho; iintro Ho
  iapply (wp_store 𝒱₀ (c : Thread nD τ) none Set.univ (m := oM) (r := Rect.unit (s := S256x256) ![0, 0] S256x256.size inb_S256x256_S256x256_0_0) (Mk := Finset.univ) (Finset.subset_univ _)) $$ Ho; iintro Ho
  rw [show ((oM).access (Rect.unit (s := S256x256) ![0, 0] S256x256.size inb_S256x256_S256x256_0_0)).write (Elt F) g _ Finset.univ
      = k0_pay22 v204 v314 v335 (idsV m ρ (px 5 c)) (rowsV m ρ (px 5 c)) from Memref.write_access_unit_zero_univ (Elt F) cc0_stg4_0 hz2 _ _ _]
  iapply (step_sent m ρ K c 0 _ sem1) $$ [HO Hc0 Ha0]
  · isplitr; · iexact HR
    isplitl [HO]; · iexact HO
    isplitl [Hc0]; · iexact Hc0
    iexact Ha0
  iintro ⟨HO, Hz0, Hp0⟩
  iapply (step_sent m ρ K c 2 _ sem3) $$ [HO Hc2 Ha2]
  · isplitr; · iexact HR
    isplitl [HO]; · iexact HO
    isplitl [Hc2]; · iexact Hc2
    iexact Ha2
  iintro ⟨HO, Hz2, Hp2⟩
  rw [wp_ret]; imodintro; iapply Hk
  isplitl [HO]; · iexact HO
  isplitl [Hz5 Hp5]
  · isplitl [Hz5]; · iexact Hz5
    iexact Hp5
  isplitl [Ho]; · iexact Ho
  isplitl [Hz0 Hp0]
  · isplitl [Hz0]; · iexact Hz0
    iexact Hp0
  isplitl [Hz2]; · iexact Hz2
  iexact Hp2

end Cert.Moe

end
-- ==== Proof.Body.lean ====
/-
`Body`: the kernel's body on one device, from its start to its end: the parts put together.
-/
module

public import proofs.«01_k».proof.Proof.Parts
public import proofs.«01_k».proof.Proof.Gen.KernelIdeal.Points
public import Idealize.ShloMosaic.Lib.Ring

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The landing buffer and its slots -/

section Slots

theorem slot_set (j : Dev nD) : (slotM j).view.set = (Rect.unit (s := S8x112x256) ![j.val, 0, 0] S1x112x256.size (slot_inb j)).set := by
  rw [View.set_reshape, View.set_slice_whole]

theorem slots_disjoint (i j : Dev nD) (h : i ≠ j) : Disjoint (slotM i).view.set (slotM j).view.set := by
  rw [slot_set, slot_set]
  have h1 : i.val ≠ j.val := fun e => h (Fin.ext e)
  refine Rect.unit_disjoint (0 : Fin 3) ?_
  show i.val + 1 ≤ j.val ∨ j.val + 1 ≤ i.val
  omega

theorem slots_cover : Finset.univ.biUnion (fun j : Dev nD => (slotM j).view.set) = (Finset.univ : Finset S8x112x256.Idx) := by
  refine Finset.eq_univ_iff_forall.mpr fun i => Finset.mem_biUnion.mpr ⟨(i 0 : Fin 8), Finset.mem_univ _, ?_⟩
  refine (slot_set (i 0 : Fin 8)).symm ▸ ?_
  rw [Rect.mem_set_unit]
  intro a
  fin_cases a
  · exact ⟨Nat.le_refl _, Nat.lt_succ_self _⟩
  · exact ⟨Nat.zero_le _, by have := (i 1).isLt; show (i 1).val < 0 + 112; change (i 1).val < 112 at this; omega⟩
  · exact ⟨Nat.zero_le _, by have := (i 2).isLt; show (i 2).val < 0 + 256; change (i 2).val < 256 at this; omega⟩

theorem slot_any (c j : Dev nD) (f) : (slotPts c j f : sProp 𝕄) ⊢ iprop(∃ f, slotPts c j f) := by
  iintro H; iexists f; iexact H

/-- The landing buffer is its eight slots; -/
theorem buf_split (c : Dev nD) (f : Buf (Elt F) (((c : Dev nD) : Thread nD τ).loc cc0_scratch1)) :
    (bufPts c cc0_scratch1 f : sProp 𝕄) ⊢ bigSep Finset.univ fun j : Dev nD => iprop(∃ f, slotPts c j f) := by
  refine (Entails.of_eq (Ring.pointsTo_sub_blocks (ℓ := ((c : Dev nD) : Thread nD τ).loc cc0_scratch1) (fun j : Dev nD => (slotM j).view.set) (fun i j h => slots_disjoint i j h) Finset.univ slots_cover f)).trans ?_
  exact bigSep_mono fun j _ => slot_any c j f
include m ρ in
/-- and its slots joined are the buffer. -/
theorem buf_join (c : Dev nD) :
    (bigSep Finset.univ fun j : Dev nD => iprop(∃ f, slotPts c j f)) ⊢ (iprop(∃ f, bufPts c cc0_scratch1 f) : sProp 𝕄) := by
  unfold slotPts
  exact Ring.pointsTo_sub_blocks_join_exists (ℓ := ((c : Dev nD) : Thread nD τ).loc cc0_scratch1) (fun j : Dev nD => (slotM j).view.set)
    (fun i j h => slots_disjoint i j h) Finset.univ slots_cover ((s₀ m ρ).mem (((c : Dev nD) : Thread nD τ).loc cc0_scratch1))

/-- The same, the slots listed from the device's own. -/
theorem buf_slots (c : Dev nD) (f : Buf (Elt F) (((c : Dev nD) : Thread nD τ).loc cc0_scratch1)) :
    (bufPts c cc0_scratch1 f : sProp 𝕄) ⊢ iprop((∃ f, slotPts c c f) ∗ barPay (px 0 c) c ∗ barPay (px 1 c) c ∗ barPay (px 2 c) c ∗ barPay (px 3 c) c ∗ barPay (px 4 c) c ∗ barPay (px 5 c) c ∗ barPay (px 6 c) c) := by
  refine (buf_split c f).trans ?_
  rw [bigSep_devs c]
  exact BI.Entails.refl _
include m ρ in
theorem slots_buf (c : Dev nD) :
    iprop((∃ f, slotPts c c f) ∗ (∃ f, slotPts c (px 0 c) f) ∗ (∃ f, slotPts c (px 1 c) f) ∗ (∃ f, slotPts c (px 2 c) f) ∗ (∃ f, slotPts c (px 3 c) f) ∗ (∃ f, slotPts c (px 4 c) f) ∗ (∃ f, slotPts c (px 5 c) f) ∗ (∃ f, slotPts c (px 6 c) f)) ⊢ (iprop(∃ f, bufPts c cc0_scratch1 f) : sProp 𝕄) := by
  refine BI.Entails.trans ?_ (buf_join m ρ c)
  rw [bigSep_devs c]
  exact BI.Entails.refl _

/-- A share of the message at some contents is one at `f`, where another share is at `f`. -/
theorem msg_agree (c : Dev nD) (q q' : PosShare TreeShare) (f) :
    iprop(msgPts c q f ∗ ∃ g, msgPts c q' g) ⊢ (iprop(msgPts c q f ∗ msgPts c q' f) : sProp 𝕄) := by
  unfold msgPts
  iintro ⟨H, %g, H'⟩
  icombine H H' gives %he
  isplitl [H]; · iexact H
  iapply (Entails.of_eq (pointsTo_congr (f := g) (g := f) fun i hi => ((he i (Finset.mem_inter.mpr ⟨hi, hi⟩)).1).symm)); iexact H'

/-- The seven lent shares, each back at some contents, and the kept one are the message buffer. -/
theorem msg_join (c : Dev nD) (f) :
    iprop(msgPts c (Transfers.shareDrop fullShare 7) f ∗ sendPay c (0 : Fin 7).val ∗ sendPay c (1 : Fin 7).val ∗ sendPay c (2 : Fin 7).val ∗ sendPay c (3 : Fin 7).val ∗ sendPay c (4 : Fin 7).val ∗ sendPay c (5 : Fin 7).val ∗ sendPay c (6 : Fin 7).val)
      ⊢ (iprop(∃ f, bufPts c cc0_scratch0 f) : sProp 𝕄) := by
  unfold sendPay
  iintro ⟨H, H0, H1, H2, H3, H4, H5, H6⟩
  ihave Hj := (msg_agree c (Transfers.shareDrop fullShare 7) (Transfers.shareTokN fullShare (0 : Fin 7).val) f) $$ [H H0]
  · isplitl [H]; · iexact H
    iexact H0
  icases Hj with ⟨H, H0⟩
  ihave Hj := (msg_agree c (Transfers.shareDrop fullShare 7) (Transfers.shareTokN fullShare (1 : Fin 7).val) f) $$ [H H1]
  · isplitl [H]; · iexact H
    iexact H1
  icases Hj with ⟨H, H1⟩
  ihave Hj := (msg_agree c (Transfers.shareDrop fullShare 7) (Transfers.shareTokN fullShare (2 : Fin 7).val) f) $$ [H H2]
  · isplitl [H]; · iexact H
    iexact H2
  icases Hj with ⟨H, H2⟩
  ihave Hj := (msg_agree c (Transfers.shareDrop fullShare 7) (Transfers.shareTokN fullShare (3 : Fin 7).val) f) $$ [H H3]
  · isplitl [H]; · iexact H
    iexact H3
  icases Hj with ⟨H, H3⟩
  ihave Hj := (msg_agree c (Transfers.shareDrop fullShare 7) (Transfers.shareTokN fullShare (4 : Fin 7).val) f) $$ [H H4]
  · isplitl [H]; · iexact H
    iexact H4
  icases Hj with ⟨H, H4⟩
  ihave Hj := (msg_agree c (Transfers.shareDrop fullShare 7) (Transfers.shareTokN fullShare (5 : Fin 7).val) f) $$ [H H5]
  · isplitl [H]; · iexact H
    iexact H5
  icases Hj with ⟨H, H5⟩
  ihave Hj := (msg_agree c (Transfers.shareDrop fullShare 7) (Transfers.shareTokN fullShare (6 : Fin 7).val) f) $$ [H H6]
  · isplitl [H]; · iexact H
    iexact H6
  icases Hj with ⟨H, H6⟩
  iexists f
  iapply (Transfers.pointsTo_toks_join fullShare 7)
  rw [bigSep_fin7]
  unfold msgPts
  rw [View.set_whole]
  isplitl [H]; · iexact H
  isplitl [H0]; · iexact H0
  isplitl [H1]; · iexact H1
  isplitl [H2]; · iexact H2
  isplitl [H3]; · iexact H3
  isplitl [H4]; · iexact H4
  isplitl [H5]; · iexact H5
  iexact H6

theorem recvPay_any [FloatOps F] (c d : Dev nD) : recvPay m ρ c d ⊢ (iprop(∃ f, slotPts c d f) : sProp 𝕄) := by
  unfold recvPay; iintro ⟨%f, -, H⟩; iexists f; iexact H

end Slots

/-! ## Start and end -/

section
variable (c : Dev nD)

/-- The tokens of the duties device `c` pays at peer `k` and at its own send cell for it. -/
def payTok (c : Dev nD) (k : Fin 7) : sProp 𝕄 :=
  iprop(dutyTok ER (barCell (px k c)) 0 c ∗ dutyTok ER (recvCell (px k c) c) 0 c ∗ dutyTok ER (sendCell c (sk k)) 0 c)
/-- What stays with device `c`: its positions and its tokens. -/
def linear (c : Dev nD) : sProp 𝕄 :=
  iprop((bigSep Finset.univ fun i : Cells => atPos ER (kcell (c, i)) 0 ∅ 0) ∗ bigSep Finset.univ fun k : Fin 7 => payTok c k)

/-- What device `c`'s body starts from. -/
def start (c : Dev nD) : sProp 𝕄 :=
  iprop((∃ K, records m ρ K ∗ linear c) ∗ (cred (tallyAt (barCell c) () 7) ∗ bigSep Finset.univ fun k : Fin 7 => cred (tallyAt (recvCell c (px k c)) () N))
    ∗ levAts L lv)
def Φ₀ (c : Dev nD) : sProp 𝕄 := iprop(start m ρ c ∗ (∃ f, bufPts c cc0_scratch0 f) ∗ (∃ f, bufPts c cc0_scratch1 f))
def Φ₁ (c : Dev nD) : sProp 𝕄 :=
  iprop(((∃ f, bufPts c cc0_scratch0 f) ∗ (∃ f, bufPts c cc0_scratch1 f)) ∗ bigSep Finset.univ fun i : Cells => semVal (kcell (c, i)) 0)

/-- The result on device `c`. -/
def outAt (c : Dev nD) : Vec F S256x256 .bf16 :=
  k0_pay22 k0_pay16
    (k0_pay20 k0_pay16
      (k0_pay19 k0_pay16
        (k0_pay18 (partA m ρ c) k0_pay16 (k0_pay17 (idsV m ρ (px 0 c))) (rowsV m ρ (px 0 c)) (idsV m ρ (px 2 c)) (rowsV m ρ (px 2 c)))
        (idsV m ρ (px 3 c)) (rowsV m ρ (px 3 c)) (idsV m ρ (px 1 c)) (rowsV m ρ (px 1 c)))
      (idsV m ρ (px 4 c)) (rowsV m ρ (px 4 c)))
    (k0_pay21 k0_pay16 (idsV m ρ (px 6 c)) (rowsV m ρ (px 6 c)))
    (idsV m ρ (px 5 c)) (rowsV m ρ (px 5 c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => X0 m ρ c
    | ⟨1, _⟩ => X1 m ρ c
    | ⟨2, _⟩ => X2 m ρ c
    | ⟨3, _⟩ => X3 m ρ c
    | ⟨4, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem cellsWhole (Φ : Cells → sProp 𝕄) : bigSep Finset.univ Φ
    = iprop(Φ (.inl ()) ∗ (Φ (.inr (.inl 0)) ∗ Φ (.inr (.inl (sk 0))) ∗ Φ (.inr (.inl (sk 1))) ∗ Φ (.inr (.inl (sk 2))) ∗ Φ (.inr (.inl (sk 3))) ∗ Φ (.inr (.inl (sk 4))) ∗ Φ (.inr (.inl (sk 5))) ∗ Φ (.inr (.inl (sk 6))))
      ∗ (Φ (.inr (.inr c)) ∗ Φ (.inr (.inr (px 0 c))) ∗ Φ (.inr (.inr (px 1 c))) ∗ Φ (.inr (.inr (px 2 c))) ∗ Φ (.inr (.inr (px 3 c))) ∗ Φ (.inr (.inr (px 4 c))) ∗ Φ (.inr (.inr (px 5 c))) ∗ Φ (.inr (.inr (px 6 c))))) := by
  rw [bigSep_univ_sum, bigSep_univ_sum, bigSep_sends, bigSep_devs c]
  rw [show (Finset.univ : Finset Unit) = {()} from rfl, bigSep_singleton]
  rfl

set_option maxHeartbeats 1600000 in
/-- The body, from its start to its end. -/
theorem sound_body (K : Dev nD × Cells → ℕ) (g : Buf (Elt F) ((oM).view.loc (c : Thread nD τ))) (Kt : PUnit → sProp 𝕄) :
    iprop(records m ρ K ∗ levAts L lv ∗ linear c ∗ cred (tallyAt (barCell c) () 7)
        ∗ (bigSep Finset.univ fun k : Fin 7 => cred (tallyAt (recvCell c (px k c)) () N))
        ∗ (∃ f, bufPts c cc0_scratch0 f) ∗ (∃ f, bufPts c cc0_scratch1 f) ∗ ow c (O₀ c)
        ∗ bufPts c cc0_stg0_0 (X0 m ρ c) ∗ bufPts c cc0_stg1_0 (X1 m ρ c) ∗ bufPts c cc0_stg2_0 (X2 m ρ c) ∗ bufPts c cc0_stg3_0 (X3 m ρ c)
        ∗ bufPts c cc0_stg4_0 g
        ∗ ((Φ₁ c ∗ ow c 0 ∗ bufPts c cc0_stg0_0 (X0 m ρ c) ∗ bufPts c cc0_stg1_0 (X1 m ρ c) ∗ bufPts c cc0_stg2_0 (X2 m ρ c) ∗ bufPts c cc0_stg3_0 (X3 m ρ c)
          ∗ bufPts c cc0_stg4_0 (outAt m ρ c)) -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  unfold linear
  rw [cellsWhole c, bigSep_fin7, bigSep_fin7]
  simp only [payTok]
  iintro ⟨#HR, #Hlev, ⟨⟨Hab, ⟨Has, Hs0, Hs1, Hs2, Hs3, Hs4, Hs5, Hs6⟩, ⟨Har, Ha0, Ha1, Ha2, Ha3, Ha4, Ha5, Ha6⟩⟩,
    ⟨Ht0, Hu0, Hv0⟩, ⟨Ht1, Hu1, Hv1⟩, ⟨Ht2, Hu2, Hv2⟩, ⟨Ht3, Hu3, Hv3⟩, ⟨Ht4, Hu4, Hv4⟩, ⟨Ht5, Hu5, Hv5⟩, ⟨Ht6, Hu6, Hv6⟩⟩, Hcb, ⟨Hc0, Hc1, Hc2, Hc3, Hc4, Hc5, Hc6⟩, ⟨%f0, Hm⟩, ⟨%f1, Hbuf⟩, HO, Hx, Hw, Hi, He, Ho, Hk⟩
  ihave Hsl := (buf_slots c f1) $$ Hbuf
  icases Hsl with ⟨Hown, Hb0, Hb1, Hb2, Hb3, Hb4, Hb5, Hb6⟩
  rw [wp_bind]
  iapply (part1 m ρ K c)
  isplitr; · iexact HR
  isplitl [HO]; · iexact HO
  isplitl [Ht0 Hb0 Ht1 Hb1 Ht2 Hb2 Ht3 Hb3 Ht4 Hb4 Ht5 Hb5]
  · unfold sigRes
    isplitl [Ht0 Hb0]
    · isplitl [Ht0]; · iexact Ht0
      iexact Hb0
    isplitl [Ht1 Hb1]
    · isplitl [Ht1]; · iexact Ht1
      iexact Hb1
    isplitl [Ht2 Hb2]
    · isplitl [Ht2]; · iexact Ht2
      iexact Hb2
    isplitl [Ht3 Hb3]
    · isplitl [Ht3]; · iexact Ht3
      iexact Hb3
    isplitl [Ht4 Hb4]
    · isplitl [Ht4]; · iexact Ht4
      iexact Hb4
    isplitl [Ht5]; · iexact Ht5
    iexact Hb5
  iintro HO
  dsimp only
  rw [wp_bind]
  iapply (part2 m ρ K c _)
  isplitr; · iexact HR
  isplitl [HO]; · iexact HO
  isplitl [Ht6 Hb6]
  · unfold sigRes
    isplitl [Ht6]; · iexact Ht6
    iexact Hb6
  isplitl [Hx]; · iexact Hx
  isplitl [Hw]; · iexact Hw
  isplitl [Hi]; · iexact Hi
  iintro ⟨HO, Hx, Hw, Hi⟩
  dsimp only
  rw [wp_bind]
  iapply (part3 m ρ c)
  isplitl [He]; · iexact He
  iintro He
  dsimp only
  rw [wp_bind]
  iapply (part4 m ρ K c _ _ _ _ _ _ rfl rfl f0)
  isplitr; · iexact HR
  isplitr; · iexact Hlev
  isplitl [HO]; · iexact HO
  isplitl [Hm]; · iexact Hm
  isplitl [Hcb]; · iexact Hcb
  isplitl [Hab]; · iexact Hab
  isplitl [Hv0 Hu0]
  · unfold sndRes
    isplitl [Hv0]; · iexact Hv0
    iexact Hu0
  iintro %f ⟨%hf, HO, Hzb, Hd0, Hm, ⟨Hm1, Hm2, Hm3, Hm4, Hm5, Hm6⟩, ⟨Hb1, Hb2, Hb3, Hb4, Hb5, Hb6⟩⟩
  rw [wp_bind]
  iapply (part5 m ρ K c _ _ f hf)
  isplitr; · iexact HR
  isplitl [HO]; · iexact HO
  isplitl [Hm2 Hb2 Hv2 Hu2]
  · unfold sndRes
    isplitl [Hm2]; · iexact Hm2
    isplitl [Hb2]; · iexact Hb2
    isplitl [Hv2]; · iexact Hv2
    iexact Hu2
  isplitl [Hm3 Hb3 Hv3 Hu3]
  · unfold sndRes
    isplitl [Hm3]; · iexact Hm3
    isplitl [Hb3]; · iexact Hb3
    isplitl [Hv3]; · iexact Hv3
    iexact Hu3
  isplitl [Hm1 Hb1 Hv1 Hu1]
  · unfold sndRes
    isplitl [Hm1]; · iexact Hm1
    isplitl [Hb1]; · iexact Hb1
    isplitl [Hv1]; · iexact Hv1
    iexact Hu1
  iintro ⟨HO, Hd2, Hd3, Hd1⟩
  rw [wp_bind]
  iapply (part6 m ρ K c _ f hf)
  isplitr; · iexact HR
  isplitl [HO]; · iexact HO
  isplitl [Hm4 Hb4 Hv4 Hu4]
  · unfold sndRes
    isplitl [Hm4]; · iexact Hm4
    isplitl [Hb4]; · iexact Hb4
    isplitl [Hv4]; · iexact Hv4
    iexact Hu4
  isplitl [Hm6 Hb6 Hv6 Hu6]
  · unfold sndRes
    isplitl [Hm6]; · iexact Hm6
    isplitl [Hb6]; · iexact Hb6
    isplitl [Hv6]; · iexact Hv6
    iexact Hu6
  isplitl [Hm5 Hb5 Hv5 Hu5]
  · unfold sndRes
    isplitl [Hm5]; · iexact Hm5
    isplitl [Hb5]; · iexact Hb5
    isplitl [Hv5]; · iexact Hv5
    iexact Hu5
  isplitl [Hc0 Ha0]
  · unfold rcvRes
    isplitl [Hc0]; · iexact Hc0
    iexact Ha0
  iintro ⟨HO, ⟨Hd4, Hd6, Hd5⟩, Hr0⟩
  dsimp only
  rw [wp_bind]
  iapply (part7 m ρ K c)
  isplitr; · iexact HR
  isplitl [HO]; · iexact HO
  isplitl [Hr0]; · iexact Hr0
  isplitl [Hc2 Ha2]
  · unfold rcvRes
    isplitl [Hc2]; · iexact Hc2
    iexact Ha2
  isplitl [Hc3 Ha3]
  · unfold rcvRes
    isplitl [Hc3]; · iexact Hc3
    iexact Ha3
  iintro ⟨HO, Hr0, Hr2, Hr3⟩
  dsimp only
  rw [wp_bind]
  iapply (part8 m ρ K c)
  isplitr; · iexact HR
  isplitl [HO]; · iexact HO
  isplitl [Hr3]; · iexact Hr3
  isplitl [Hc1 Ha1]
  · unfold rcvRes
    isplitl [Hc1]; · iexact Hc1
    iexact Ha1
  iintro ⟨HO, Hr3, Hr1⟩
  dsimp only
  rw [wp_bind]
  iapply (part9 m ρ K c)
  isplitr; · iexact HR
  isplitl [HO]; · iexact HO
  isplitl [Hc4 Ha4]
  · unfold rcvRes
    isplitl [Hc4]; · iexact Hc4
    iexact Ha4
  isplitl [Hc6 Ha6]
  · unfold rcvRes
    isplitl [Hc6]; · iexact Hc6
    iexact Ha6
  iintro ⟨HO, Hr4, Hr6⟩
  dsimp only
  rw [wp_bind]
  iapply (part10 m ρ K c _ _ _ _ g)
  isplitr; · iexact HR
  isplitl [HO]; · iexact HO
  isplitl [Hc5 Ha5]
  · unfold rcvRes
    isplitl [Hc5]; · iexact Hc5
    iexact Ha5
  isplitl [Ho]; · iexact Ho
  isplitl [Hd0 Hs0]
  · unfold sntRes
    isplitl [Hd0]; · iexact Hd0
    iexact Hs0
  isplitl [Hd2 Hs2]
  · unfold sntRes
    isplitl [Hd2]; · iexact Hd2
    iexact Hs2
  iintro ⟨HO, Hr5, Ho, Hn0, Hn2⟩
  simp only [Prog.lift, Prog.bind_op, Prog.bind_ret, Prog.pure_eq_ret]
  iapply (step_sent m ρ K c 3 _ sem4) $$ [HO Hd3 Hs3]
  · isplitr; · iexact HR
    isplitl [HO]; · iexact HO
    isplitl [Hd3]; · iexact Hd3
    iexact Hs3
  iintro ⟨HO, Hy3, Hq3⟩
  iapply (step_sent m ρ K c 1 _ sem2) $$ [HO Hd1 Hs1]
  · isplitr; · iexact HR
    isplitl [HO]; · iexact HO
    isplitl [Hd1]; · iexact Hd1
    iexact Hs1
  iintro ⟨HO, Hy1, Hq1⟩
  iapply (step_sent m ρ K c 4 _ sem5) $$ [HO Hd4 Hs4]
  · isplitr; · iexact HR
    isplitl [HO]; · iexact HO
    isplitl [Hd4]; · iexact Hd4
    iexact Hs4
  iintro ⟨HO, Hy4, Hq4⟩
  iapply (step_sent m ρ K c 6 _ sem7) $$ [HO Hd6 Hs6]
  · isplitr; · iexact HR
    isplitl [HO]; · iexact HO
    isplitl [Hd6]; · iexact Hd6
    iexact Hs6
  iintro ⟨HO, Hy6, Hq6⟩
  iapply (step_sent m ρ K c 5 _ sem6) $$ [HO Hd5 Hs5]
  · isplitr; · iexact HR
    isplitl [HO]; · iexact HO
    isplitl [Hd5]; · iexact Hd5
    iexact Hs5
  iintro ⟨HO, Hy5, Hq5⟩
  -- the two unused cells close
  imod (Rounds.cell_close ER (xRd m ρ) (Set.mem_univ (K (c, .inr (.inl 0)))) (fun h => h) (R := 0) (duties_send0 m ρ c)) $$ [Has] with Hys
  · isplitr; · iapply (rec_inv m ρ K (c, .inr (.inl 0))); iexact HR
    iexact Has
  imod (Rounds.cell_close ER (xRd m ρ) (Set.mem_univ (K (c, .inr (.inr c)))) (fun h => h) (R := 0) (duties_recv_self m ρ c)) $$ [Har] with Hyr
  · isplitr; · iapply (rec_inv m ρ K (c, .inr (.inr c))); iexact HR
    iexact Har
  unfold rcvEnd sntEnd
  icases Hr0 with ⟨Hz0, Hp0⟩
  icases Hr1 with ⟨Hz1, Hp1⟩
  icases Hr2 with ⟨Hz2, Hp2⟩
  icases Hr3 with ⟨Hz3, Hp3⟩
  icases Hr4 with ⟨Hz4, Hp4⟩
  icases Hr5 with ⟨Hz5, Hp5⟩
  icases Hr6 with ⟨Hz6, Hp6⟩
  icases Hn0 with ⟨Hy0, Hq0⟩
  icases Hn2 with ⟨Hy2, Hq2⟩
  rw [wp_ret]; imodintro
  iapply Hk
  isplitr [HO Hx Hw Hi He Ho]
  · unfold Φ₁
    isplitl [Hm Hown Hp0 Hq0 Hp1 Hq1 Hp2 Hq2 Hp3 Hq3 Hp4 Hq4 Hp5 Hq5 Hp6 Hq6]
    · isplitl [Hm Hq0 Hq1 Hq2 Hq3 Hq4 Hq5 Hq6]
      · iapply (msg_join c f)
        isplitl [Hm]; · iexact Hm
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        iexact Hq6
      · iapply (slots_buf m ρ c)
        isplitl [Hown]; · iexact Hown
        isplitl [Hp0]
        · iapply (recvPay_any m ρ c (px 0 c)); iexact Hp0
        isplitl [Hp1]
        · iapply (recvPay_any m ρ c (px 1 c)); iexact Hp1
        isplitl [Hp2]
        · iapply (recvPay_any m ρ c (px 2 c)); iexact Hp2
        isplitl [Hp3]
        · iapply (recvPay_any m ρ c (px 3 c)); iexact Hp3
        isplitl [Hp4]
        · iapply (recvPay_any m ρ c (px 4 c)); iexact Hp4
        isplitl [Hp5]
        · iapply (recvPay_any m ρ c (px 5 c)); iexact Hp5
        iapply (recvPay_any m ρ c (px 6 c)); iexact Hp6
    · rw [cellsWhole c]
      isplitl [Hzb]; · iexact Hzb
      isplitl [Hys Hy0 Hy1 Hy2 Hy3 Hy4 Hy5 Hy6]
      · isplitl [Hys]; · iexact Hys
        isplitl [Hy0]; · iexact Hy0
        isplitl [Hy1]; · iexact Hy1
        isplitl [Hy2]; · iexact Hy2
        isplitl [Hy3]; · iexact Hy3
        isplitl [Hy4]; · iexact Hy4
        isplitl [Hy5]; · iexact Hy5
        iexact Hy6
      · isplitl [Hyr]; · iexact Hyr
        isplitl [Hz0]; · iexact Hz0
        isplitl [Hz1]; · iexact Hz1
        isplitl [Hz2]; · iexact Hz2
        isplitl [Hz3]; · iexact Hz3
        isplitl [Hz4]; · iexact Hz4
        isplitl [Hz5]; · iexact Hz5
        iexact Hz6
  isplitl [HO]; · iexact HO
  isplitl [Hx]; · iexact Hx
  isplitl [Hw]; · iexact Hw
  isplitl [Hi]; · iexact Hi
  isplitl [He]; · iexact He
  unfold outAt partA partOf
  iexact Ho

def bodyPre (c : Dev nD) : sProp 𝕄 :=
  iprop(Φ₀ m ρ c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))
def bodyPost (c : Dev nD) : sProp 𝕄 :=
  iprop(Φ₁ c ∗ (dats m ρ 0 c).owesAt () t0_0.succ
    ∗ stg c cc0_stg0_0 (X0 m ρ c) ∗ stg c cc0_stg1_0 (X1 m ρ c) ∗ stg c cc0_stg2_0 (X2 m ρ c) ∗ stg c cc0_stg3_0 (X3 m ρ c) ∗ stg c cc0_stg4_0 (outAt m ρ c))

/-- What the pipeline finds fetched in an input's staging buffer. -/
theorem before_0 (d) : (dats m ρ 0 c).before (0 : Fin 5) t0_0 d = X0 m ρ c := by
  unfold Dat.before; rw [if_pos (fetch0_0 t0_0)]; rfl
theorem before_1 (d) : (dats m ρ 0 c).before (1 : Fin 5) t0_0 d = X1 m ρ c := by
  unfold Dat.before; rw [if_pos (fetch0_1 t0_0)]; rfl
theorem before_2 (d) : (dats m ρ 0 c).before (2 : Fin 5) t0_0 d = X2 m ρ c := by
  unfold Dat.before; rw [if_pos (fetch0_2 t0_0)]; rfl
theorem before_3 (d) : (dats m ρ 0 c).before (3 : Fin 5) t0_0 d = X3 m ρ c := by
  unfold Dat.before; rw [if_pos (fetch0_3 t0_0)]; rfl

set_option maxRecDepth 4000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _)
            (Memref.whole cc0_scratch0) (Memref.isWhole_whole _) (Memref.whole cc0_scratch1) (Memref.isWhole_whole _) cc0_scratch2 cc0_scratch3) (fun _ => bodyPost m ρ c)
  unfold bodyPre Φ₀ start
  iintro ⟨⟨⟨⟨%K, #HR, Hlin⟩, ⟨Hcb, Hcr⟩, #Hlev⟩, Hm, Hbuf⟩, Ho, ⟨%d0, %g0, %h0, Hx⟩, ⟨%d1, %g1, %h1, Hw⟩, ⟨%d2, %g2, %h2, Hi⟩, ⟨%d3, %g3, %h3, He⟩, ⟨%d4, %g4, %h4, Hout⟩⟩
  have e0 : g0 = X0 m ρ c := h0.trans (before_0 m ρ c d0)
  have e1 : g1 = X1 m ρ c := h1.trans (before_1 m ρ c d1)
  have e2 : g2 = X2 m ρ c := h2.trans (before_2 m ρ c d2)
  have e3 : g3 = X3 m ρ c := h3.trans (before_3 m ρ c d3)
  subst e0 e1 e2 e3
  unfold Dat.owesAt Pipeline.owesWithin
  icases Ho with ⟨%W, %hW, HO⟩
  iapply (sound_body m ρ c K g4 fun _ => bodyPost m ρ c)
  isplitr; · iexact HR
  isplitr; · iexact Hlev
  isplitl [Hlin]; · iexact Hlin
  isplitl [Hcb]; · iexact Hcb
  isplitl [Hcr]; · iexact Hcr
  isplitl [Hm]; · iexact Hm
  isplitl [Hbuf]; · iexact Hbuf
  isplitl [HO]
  · unfold ow; iexists W; iexact HO
  isplitl [Hx]; · iexact Hx
  isplitl [Hw]; · iexact Hw
  isplitl [Hi]; · iexact Hi
  isplitl [He]; · iexact He
  isplitl [Hout]; · iexact Hout
  unfold bodyPost Dat.owesAt Pipeline.owesWithin ow
  iintro ⟨HΦ, ⟨%W', HO⟩, Hx, Hw, Hi, He, Hout⟩
  isplitl [HΦ]; · iexact HΦ
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Hi]
  · iexists _; isplitr; · (ipureintro; rfl)
    iexact Hi
  isplitl [He]
  · iexists _; isplitr; · (ipureintro; rfl)
    iexact He
  iexists _; isplitr; · (ipureintro; rfl)
  iexact Hout

end

end Cert.Moe

end
-- ==== Proof.Launch.lean ====
/-
`Launch`: the exchange set up on all eight devices at once, and the run of the whole program.
-/
module

public import proofs.«01_k».proof.Proof.Body
public import Idealize.ShloMosaic.Lib.Pipeline.CollectiveSegs
public import Idealize.ShloMosaic.Lib.Quiescent

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide
theorem kcell_injective : Function.Injective (kcell : Dev nD × Cells → GSem nD τ sig) := by
  rintro ⟨c, i⟩ ⟨c', i'⟩ h
  have h1 : c = c' := congrArg (fun g : GSem nD τ sig => g.1.1) h
  have h2 : i = i' := csem_injective (congrArg Prod.snd h)
  rw [h1, h2]
def allCells : Finset (GSem nD τ sig) := Finset.univ.map ⟨kcell, kcell_injective⟩

/-- The tokens, named by who pays them: device `c` pays its peer `k`'s barrier, its message's arrival there, and its own
    send for that peer. -/
abbrev tokOf (x : (Dev nD × Fin 7) × Fin 3) : GSem nD τ sig × ℕ × Dev nD := match x.2 with
  | 0 => (barCell (px x.1.2 x.1.1), 0, x.1.1)
  | 1 => (recvCell (px x.1.2 x.1.1) x.1.1, 0, x.1.1)
  | 2 => (sendCell x.1.1 (sk x.1.2), 0, x.1.1)
theorem tokOf_third (x : (Dev nD × Fin 7) × Fin 3) : (tokOf x).2.2 = x.1.1 := by
  obtain ⟨⟨c, k⟩, t⟩ := x; fin_cases t <;> rfl
def tokSem (c : Dev nD) (k : Fin 7) (t : Fin 3) : SemLoc sig := match t with
  | 0 => .reg barS | 1 => .dma (rS c) | 2 => .dma (sS (sk k))
def tokDev (c : Dev nD) (k : Fin 7) (t : Fin 3) : Dev nD := match t with
  | 0 => px k c | 1 => px k c | 2 => c
theorem tokOf_sem (x : (Dev nD × Fin 7) × Fin 3) : (tokOf x).1.2 = tokSem x.1.1 x.1.2 x.2 := by
  obtain ⟨⟨c, k⟩, t⟩ := x; fin_cases t <;> rfl
theorem tokOf_dev (x : (Dev nD × Fin 7) × Fin 3) : (tokOf x).1.1.1 = tokDev x.1.1 x.1.2 x.2 := by
  obtain ⟨⟨c, k⟩, t⟩ := x; fin_cases t <;> rfl
theorem sems_apart (c : Dev nD) (k k' : Fin 7) (t t' : Fin 3)
    (h : tokSem c k t = tokSem c k' t') (hd : tokDev c k t = tokDev c k' t') : k = k' ∧ t = t' := by
  revert c k k' t t'; decide
theorem tokOf_injective : Function.Injective tokOf := by
  intro x x' h
  have h3 : x.1.1 = x'.1.1 := by rw [← tokOf_third x, ← tokOf_third x', h]
  have h1 := congrArg (fun y : GSem nD τ sig × ℕ × Dev nD => y.1.2) h
  have h2 := congrArg (fun y : GSem nD τ sig × ℕ × Dev nD => y.1.1.1) h
  simp only [tokOf_sem] at h1
  simp only [tokOf_dev] at h2
  obtain ⟨⟨c, k⟩, t⟩ := x
  obtain ⟨⟨c', k'⟩, t'⟩ := x'
  dsimp only at h1 h2 h3
  subst h3
  obtain ⟨rfl, rfl⟩ := sems_apart c k k' t t' h1 h2
  rfl
def allToks : Finset (GSem nD τ sig × ℕ × Dev nD) := Finset.univ.map ⟨tokOf, tokOf_injective⟩

def u₀ : UU :=
  (initOf (Pipeline.cells cfgs cellOf_inj) (Pipeline.launchToks cfgs cellOf_inj), initOf allCells allToks)

/-- What the launch deals device `c`: its cells' states, its positions, and the tokens it pays. -/
def G (c : Dev nD) : sProp 𝕄 :=
  iprop((bigSep Finset.univ fun i : Cells => roundState ER (xRd m ρ) (kcell (c, i)) 0)
    ∗ (bigSep Finset.univ fun i : Cells => iprop(atPos ER (kcell (c, i)) 0 ∅ 0 ∗ reached ER (kcell (c, i)) 0))
    ∗ bigSep Finset.univ fun k : Fin 7 => payTok c k)
/-- What the devices together make of it. -/
def G' (c : Dev nD) : sProp 𝕄 := iprop(∃ K, records m ρ K ∗ linear c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun i : Cells => Φ (kcell (c, i)) := by
    unfold allCells; rw [bigSep_map, bigSep_univ_prod]; rfl
  have hT : bigSep allToks (fun x => (dutyTok ER x.1 x.2.1 x.2.2 : sProp 𝕄)) = bigSep Finset.univ fun c : Dev nD => bigSep Finset.univ fun k : Fin 7 => payTok c k := by
    unfold allToks; rw [bigSep_map, bigSep_univ_prod, bigSep_univ_prod]
    exact bigSep_congr fun c _ => bigSep_congr fun k _ => by unfold payTok; rw [bigSep_fin3]; rfl
  iintro HX
  imod (Rounds.fund ER (xRd m ρ) allCells allToks) $$ HX with ⟨Hst, Hr, Hat, Htok⟩
  imodintro
  ihave Hst' := (Entails.of_eq (hX fun g => roundState ER (xRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- Every cell of a device at zero: the barrier semaphore and the kernel's own. -/
theorem sems0_eq (c : Dev nD) : (bigSep Finset.univ fun i : Cells => semVal (kcell (c, i)) 0 : sProp 𝕄)
    = iprop(unscopedSems0 c ∗ Pipeline.ownSems0 (Ix := Unit) (Name := ℕ) (U := UU) (Lvl := ℕ) (Val := Elt F) (τ := τ) osem c) := by
  rw [unscopedSems0_eq, bigSep_univ_sum, show (Finset.univ : Finset Unit) = {()} from rfl, bigSep_singleton]
  rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i => iprop(∃ κ : ℕ, cellInv ER (xRd m ρ) κ (kcell (c, i))))
          ∗ (bigSep Finset.univ fun i => iprop(atPos ER (kcell (c, i)) 0 ∅ 0 ∗ reached ER (kcell (c, i)) 0))
          ∗ bigSep Finset.univ fun k : Fin 7 => payTok c k) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun i : Cells => semVal (kcell (c, i)) 0) ∗ bigSep Finset.univ fun i : Cells => roundState ER (xRd m ρ) (kcell (c, i)) 0)
      ⊢ (|={Set.univ}=> bigSep Finset.univ fun i => iprop(∃ κ : ℕ, cellInv ER (xRd m ρ) κ (kcell (c, i))) : sProp 𝕄) from by
        rw [← bigSep_sep']
        exact (bigSep_mono fun i _ => (Rounds.body_intro ER (xRd m ρ) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- What is known for ever may be given to each member of a family. -/
theorem share_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem linear_intro (K : Dev nD × Cells → ℕ) (c : Dev nD) : iprop(records m ρ K ∗ linear c) ⊢ G' m ρ c := by
  unfold G'; iintro H; iexists K; iexact H

theorem regroup :
    (bigSep Finset.univ fun c : Dev nD => iprop((bigSep Finset.univ fun i => iprop(∃ κ : ℕ, cellInv ER (xRd m ρ) κ (kcell (c, i))))
          ∗ (bigSep Finset.univ fun i => iprop(atPos ER (kcell (c, i)) 0 ∅ 0 ∗ reached ER (kcell (c, i)) 0))
          ∗ bigSep Finset.univ fun k : Fin 7 => payTok c k) : sProp 𝕄)
      ⊢ bigSep Finset.univ (G' m ρ) := by
  rw [bigSep_sep', bigSep_sep', ← bigSep_univ_prod (fun ck : Dev nD × Cells => iprop(∃ κ : ℕ, cellInv ER (xRd m ρ) κ (kcell ck))),
    bigSep_congr (s := Finset.univ) (fun (c : Dev nD) _ => bigSep_sep' Finset.univ (fun i : Cells => (atPos ER (kcell (c, i)) 0 ∅ 0 : sProp 𝕄)) (fun i => reached ER (kcell (c, i)) 0)),
    bigSep_sep', ← bigSep_univ_prod (fun ck : Dev nD × Cells => (reached ER (kcell ck) 0 : sProp 𝕄))]
  iintro ⟨HI, ⟨Hat, #HR⟩, Htok⟩
  ihave HK := (BI.bigSep_exists_pi Finset.univ (fun (ck : Dev nD × Cells) (κ : ℕ) => (cellInv ER (xRd m ρ) κ (kcell ck) : sProp 𝕄))) $$ HI
  icases HK with ⟨%K, #HI⟩
  iapply (share_known (R := records m ρ K) fun c _ => linear_intro m ρ K c)
  isplitr
  · unfold records; isplitl; · iexact HI
    iexact HR
  · iapply (Entails.of_eq (bigSep_sep' Finset.univ (fun c : Dev nD => bigSep Finset.univ fun i : Cells => (atPos ER (kcell (c, i)) 0 ∅ 0 : sProp 𝕄))
      (fun c : Dev nD => bigSep Finset.univ fun k : Fin 7 => payTok c k)).symm)
    isplitl [Hat]; · iexact Hat
    iexact Htok

/-- The devices together: every cell's invariant opened, known to all. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

omit [FloatOps F] in
theorem oRecv_apply (d : Dev nD) (l : List (Fin 7)) (g : GSem nD τ sig) :
    oRecv d l g () = (l.map fun k => N * if g = recvCell (px k d) d then 1 else 0).sum := by
  induction l with
  | nil => rfl
  | cons k l ih =>
    unfold oRecv
    rw [Pi.add_apply, Finsupp.add_apply, tallyAt_apply, ih, List.map_cons, List.sum_cons, Nat.add_comm, mul_ite, Nat.mul_one, Nat.mul_zero]
    congr 1
    simp only [and_true]
omit [FloatOps F] in
theorem oBar_apply (d : Dev nD) (l : List (Fin 7)) (g : GSem nD τ sig) :
    oBar d l g () = oRecv d ord g () + (l.map fun k => if g = barCell (px k d) then 1 else 0).sum := by
  induction l with
  | nil => rfl
  | cons k l ih =>
    unfold oBar
    rw [Pi.add_apply, Finsupp.add_apply, tallyAt_apply, ih, List.map_cons, List.sum_cons, Nat.add_assoc, Nat.add_comm (List.sum _)]
    congr 2
    simp only [and_true]

omit [FloatOps F] in
theorem bar_eq_iff {a b : Dev nD} : Iff (barCell a = barCell b) (a = b) :=
  ⟨fun h => congrArg (fun g : GSem nD τ sig => g.1.1) h, fun h => h ▸ rfl⟩
omit [FloatOps F] in
theorem recv_eq_iff {a b p q : Dev nD} : Iff (recvCell a p = recvCell b q) (a = b ∧ p = q) :=
  ⟨fun h => ⟨congrArg (fun g : GSem nD τ sig => g.1.1) h, rS_inj (SemLoc.dma.inj (congrArg Prod.snd h))⟩, fun h => by rw [h.1, h.2]⟩
omit [FloatOps F] in
theorem bar_ne_recv {a b p : Dev nD} : ¬ barCell a = recvCell b p := fun h => by
  have := congrArg Prod.snd h; cases this

omit [FloatOps F] in
theorem owed_bar (d c : Dev nD) : O₀ d (barCell c) () = (([0, 1, 2, 3, 4, 5, 6] : List (Fin 7)).map fun k => if c = px k d then 1 else 0).sum := by
  unfold O₀
  rw [oBar_apply, oRecv_apply]
  simp only [bar_ne_recv, bar_eq_iff, if_false, Nat.mul_zero]
  rw [List.map_const', List.sum_replicate, smul_zero, Nat.zero_add]
omit [FloatOps F] in
theorem owed_recv (d c p : Dev nD) : O₀ d (recvCell c p) () = N * (ord.map fun k => if c = px k d ∧ p = d then 1 else 0).sum := by
  unfold O₀
  rw [oBar_apply, oRecv_apply]
  simp only [recv_eq_iff, show ∀ k, ¬ recvCell c p = barCell (px k d) from fun k h => bar_ne_recv h.symm, if_false]
  rw [List.map_const', List.sum_replicate, smul_zero, Nat.add_zero, List.sum_map_mul_left]

theorem count_bar (c : Dev nD) : (∑ d : Dev nD, (([0, 1, 2, 3, 4, 5, 6] : List (Fin 7)).map fun k => if c = px k d then 1 else 0).sum) = 7 := by
  revert c; decide
theorem count_recv (c : Dev nD) (k : Fin 7) : (∑ d : Dev nD, (ord.map fun j => if c = px j d ∧ px k c = d then 1 else 0).sum) = 1 := by
  revert c k; decide

omit [FloatOps F] in
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, count_bar]
omit [FloatOps F] in
theorem launch_recv (c : Dev nD) (k : Fin 7) :
    tallyOn (recvCell c (px k c)) (launchCredit (Pipeline.owing O₀) 0 (recvCell c (px k c))) = (tallyAt (recvCell c (px k c)) () N : CellTallies nD τ sig Unit) := by
  unfold tallyAt; refine congrArg _ (Finsupp.ext fun u => ?_); cases u
  rw [Pipeline.launchCredit_owing, Finsupp.single_eq_same, Finset.sum_congr rfl fun d _ => owed_recv d c (px k c), ← Finset.mul_sum, count_recv, Nat.mul_one]

/-- The semaphores whose credit a device takes from the launch. -/
def credSem (c : Dev nD) : Unit ⊕ Fin 7 → SemLoc sig
  | .inl _ => .reg barS
  | .inr k => .dma (rS (px k c))
theorem credSem_injective (c : Dev nD) : Function.Injective (credSem c) := by
  revert c; decide

omit [FloatOps F] in
theorem creds (c : Dev nD) :
    (Pipeline.launchCred O₀ c : sProp 𝕄) ⊢ iprop(cred (tallyAt (barCell c) () 7) ∗ bigSep Finset.univ fun k : Fin 7 => cred (tallyAt (recvCell c (px k c)) () N)) := by
  unfold Pipeline.launchCred
  refine (BI.bigSep_subset (Finset.subset_univ (Finset.univ.map ⟨credSem c, credSem_injective c⟩))).trans ?_
  rw [bigSep_map, bigSep_univ_sum, show (Finset.univ : Finset Unit) = {()} from rfl, bigSep_singleton]
  exact (sep_mono_left (Entails.of_eq (congrArg cred (launch_bar c)))).trans
    (sep_mono_right (Entails.of_eq (bigSep_congr fun k _ => congrArg cred (launch_recv c k))))

/-! ## The run's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hm, Hb⟩
  isplitl [Hs]; · iexact Hs
  isplitl [Hm]; · iexact Hm
  iexact Hb

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [sems0_eq]
  iintro ⟨⟨Hm, Hb⟩, Hu, Ho⟩
  isplitl [Hu]; · iexact Hu
  isplitl [Ho]; · iexact Ho
  isplitl [Hm]; · iexact Hm
  iexact Hb

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- The whole program, for any float values and from any memory with zero counters: every fair execution ends, with
    each device's arrays at the contents computed and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input's array holds after the run what it held. -/
theorem finalA_0 (c : Dev nD) : finalA m ρ c (0 : Fin 5) = m ((c : Thread nD τ).loc main_arg0) := (dats (F := F) m ρ 0 c).arrAt_in (0 : Fin 5) rfl _
theorem finalA_1 (c : Dev nD) : finalA m ρ c (1 : Fin 5) = m ((c : Thread nD τ).loc main_arg1) := (dats (F := F) m ρ 0 c).arrAt_in (1 : Fin 5) rfl _
theorem finalA_2 (c : Dev nD) : finalA m ρ c (2 : Fin 5) = m ((c : Thread nD τ).loc main_arg2) := (dats (F := F) m ρ 0 c).arrAt_in (2 : Fin 5) rfl _
theorem finalA_3 (c : Dev nD) : finalA m ρ c (3 : Fin 5) = m ((c : Thread nD τ).loc main_arg3) := (dats (F := F) m ρ 0 c).arrAt_in (3 : Fin 5) rfl _

omit [FloatOps F] in
theorem blk4_emb (x : S256x256.Idx) : (win0_4.blk (0 : Fin 1)).view.emb x = x := by
  funext a
  fin_cases a
  · exact Fin.ext (by show 0 + 1 * (x 0).val = (x 0).val; omega)
  · exact Fin.ext (by show 0 + 1 * (x 1).val = (x 1).val; omega)
/-- The result's array holds after the run what the body left. -/
theorem finalA_4 (c : Dev nD) : finalA m ρ c (4 : Fin 5) = outAt m ρ c := by
  unfold finalA
  refine ((dats (F := F) m ρ 0 c).arrAt_succ (4 : Fin 5) t0_0).trans ?_
  rw [if_pos (flush0_4 t0_0)]
  funext x
  refine Eq.trans (congrArg _ (blk4_emb x).symm) ?_
  exact View.write_emb_of_mem _ _ (Finset.mem_univ _)

/-- The run, read at the program's arrays. -/
theorem run_args : θ_run defs (onTc (τ := τ) (main (F := F))) (s₀ m ρ) (fun r => (∀ c : Dev nD,
      r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h.1 c (4 : Fin 5)).trans (finalA_4 m ρ c), (h.1 c (0 : Fin 5)).trans (finalA_0 m ρ c),
    (h.1 c (1 : Fin 5)).trans (finalA_1 m ρ c), (h.1 c (2 : Fin 5)).trans (finalA_2 m ρ c), (h.1 c (3 : Fin 5)).trans (finalA_3 m ρ c)⟩, h.2⟩) (run_main m ρ)

end Cert.Moe

end
-- ==== Proof.Frames.lean ====
/-
`Frames`: the frame claims of the kernel, of its idealization, and of the reference.
-/
module

public import proofs.«01_k».proof.Defs
public import proofs.«01_k».proof.Proof.Gen.Kernel
public import proofs.«01_k».proof.Proof.Launch
public import proofs.«01_k».proof.Proof.Gen.ReferenceIdeal.Run

@[expose] public section

noncomputable section

namespace Cert.Moe

open Idealize.ShloMosaic
open Idealize.ShloMosaic.TcCoe
open Idealize.SL.Sem

/-- The idealization of the kernel runs, keeps its arguments and ends quiet. -/
theorem frame_ideal : Cert.quiescent_KernelIdeal := fun m g _ =>
  (θ_run Cert.KernelIdeal.defs _ _).mono (fun _ h => ⟨fun c => (h.1 c).2, h.2⟩) (run_args (F := Ideal) m g)

/-! ### The kernel has the same text as its idealization -/

theorem body_text : @Cert.Kernel.cc0_body Bits _ Cert.Kernel.Gen.facts = @Cert.KernelIdeal.cc0_body Bits _ Cert.KernelIdeal.Gen.facts := rfl
theorem defs₀_text : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc ?_
  funext l x
  match l, x with
  | 0, (t, s) => rfl
theorem defs_text : @Cert.Kernel.defs Bits _ Cert.Kernel.Gen.facts = @Cert.KernelIdeal.defs Bits _ Cert.KernelIdeal.Gen.facts := by
  unfold Cert.Kernel.defs Cert.KernelIdeal.defs
  exact congrArg (Pipeline.defs Cert.Kernel.pcfgs) defs₀_text

/-- So its run is the same run at the machine's floats. -/
theorem frame_kernel : Cert.quiescent_Kernel := fun m g _ => by
  rw [defs_text]
  exact (θ_run Cert.KernelIdeal.defs (onTc (τ := Cert.KernelIdeal.τ) (Cert.KernelIdeal.main (F := Bits))) (s₀ m g)).mono
    (fun _ h => ⟨fun c => (h.1 c).2, h.2⟩) (run_args (F := Bits) m g)

/-- The reference runs and keeps its arguments; it has no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

end Cert.Moe

end
-- ==== Proof.Packing.lean ====
/-
  PACKING FLAGGED ROWS INTO A SHORT MESSAGE, AND BACK.
  A device flags some of the 256 tokens, ranks the flagged ones by how many flagged tokens stand before each, and sends
  slot by slot the number of the token of that rank with its row. The receiver adds to token `t` every slot whose
  number is `t`. If at most 96 tokens are flagged, the 96 slots of a message carry exactly the flagged rows.
-/
module

public import proofs.«01_k».proof.Proof.Protocol
public import Idealize.ShloMosaic.Lib.Pointwise
public import Idealize.ShloMosaic.Lib.IdealHost

@[expose] public section
noncomputable section
namespace Cert.Moe
open Idealize.ShloMosaic

/-- How many flagged tokens stand before token `t`. -/
def rank (P : Fin 256 → Bool) (t : Fin 256) : ℕ := (Finset.univ.filter fun u => u < t ∧ P u = true).card

/-- Token `t` is flagged and is the `j`-th flagged token. -/
def inSlot (P : Fin 256 → Bool) (t : Fin 256) (j : ℕ) : Bool := decide (rank P t = j) && P t

/-- The token number slot `j` carries: `-1` when no flagged token has that rank. -/
def slotId (P : Fin 256 → Bool) (j : ℕ) : EReal :=
  (∑ t : Fin 256, if inSlot P t j = true then (((t.val : ℝ) : EReal) + 1) else 0) - 1

/-- The entry slot `j` carries of the column `v`. -/
def slotVal (P : Fin 256 → Bool) (v : Fin 256 → EReal) (j : ℕ) : EReal :=
  ∑ t : Fin 256, if inSlot P t j = true then v t else 0

theorem rank_lt {P : Fin 256 → Bool} {t u : Fin 256} (hu : P u = true) (h : u < t) : rank P u < rank P t := by
  refine Finset.card_lt_card (Finset.ssubset_iff_of_subset ?_ |>.2 ⟨u, ?_, ?_⟩)
  · intro a ha
    simp only [Finset.mem_filter, Finset.mem_univ, true_and] at ha ⊢
    exact ⟨ha.1.trans h, ha.2⟩
  · simp [h, hu]
  · simp

theorem rank_inj {P : Fin 256 → Bool} {t u : Fin 256} (ht : P t = true) (hu : P u = true) (h : rank P u = rank P t) : u = t := by
  rcases lt_trichotomy u t with h' | h' | h'
  · exact absurd h (rank_lt hu h').ne
  · exact h'
  · exact absurd h (rank_lt ht h').ne'

theorem rank_lt_card {P : Fin 256 → Bool} {t : Fin 256} (ht : P t = true) :
    rank P t < (Finset.univ.filter fun u => P u = true).card := by
  refine Finset.card_lt_card (Finset.ssubset_iff_of_subset ?_ |>.2 ⟨t, ?_, ?_⟩)
  · intro a ha
    simp only [Finset.mem_filter, Finset.mem_univ, true_and] at ha ⊢
    exact ha.2
  · simp [ht]
  · simp

theorem inSlot_iff {P : Fin 256 → Bool} {u : Fin 256} (hu : P u = true) (t : Fin 256) :
    inSlot P t (rank P u) = true ↔ t = u := by
  constructor
  · intro h
    simp only [inSlot, Bool.and_eq_true, decide_eq_true_eq] at h
    exact rank_inj hu h.2 h.1
  · rintro rfl
    simp [inSlot, hu]

/-- The slot of a flagged token carries its number. -/
theorem slotId_rank {P : Fin 256 → Bool} {u : Fin 256} (hu : P u = true) : slotId P (rank P u) = ((u.val : ℝ) : EReal) := by
  simp only [slotId, inSlot_iff hu]
  rw [Finset.sum_ite_eq' Finset.univ u, if_pos (Finset.mem_univ _)]
  rw [← EReal.coe_one, ← EReal.coe_add, ← EReal.coe_sub]
  congr 1; ring

/-- The slot of a flagged token carries its entry. -/
theorem slotVal_rank {P : Fin 256 → Bool} {u : Fin 256} (hu : P u = true) (v : Fin 256 → EReal) : slotVal P v (rank P u) = v u := by
  simp only [slotVal, inSlot_iff hu]
  rw [Finset.sum_ite_eq' Finset.univ u, if_pos (Finset.mem_univ _)]

/-- A slot whose number is `t` is the slot of the flagged token `t`. -/
theorem slot_of_id {P : Fin 256 → Bool} {t : Fin 256} {j : ℕ} (h : ((t.val : ℝ) : EReal) = slotId P j) : P t = true ∧ rank P t = j := by
  by_cases hj : ∃ u, inSlot P u j = true
  · obtain ⟨u, hu⟩ := hj
    simp only [inSlot, Bool.and_eq_true, decide_eq_true_eq] at hu
    obtain ⟨rfl, hu⟩ := hu
    rw [slotId_rank hu] at h
    have h1 : t.val = u.val := by exact_mod_cast h
    have h2 : t = u := Fin.ext h1
    subst h2
    exact ⟨hu, rfl⟩
  · rw [not_exists] at hj
    exfalso
    have : slotId P j = ((-1 : ℝ) : EReal) := by
      unfold slotId
      rw [Finset.sum_eq_zero fun t _ => if_neg (hj t), ← EReal.coe_one, ← EReal.coe_zero, ← EReal.coe_sub]
      congr 1; ring
    rw [this] at h
    have h1 : (t.val : ℝ) = -1 := by exact_mod_cast h
    have h2 : (0 : ℝ) ≤ (t.val : ℝ) := Nat.cast_nonneg _
    linarith

/-- Adding up the slots whose number is `t` gives token `t`'s entry if it is flagged and nothing if not. -/
theorem unpack (P : Fin 256 → Bool) (hP : (Finset.univ.filter fun u => P u = true).card ≤ 96) (v : Fin 256 → EReal) (t : Fin 256) :
    (∑ j : Fin 96, (if ((t.val : ℝ) : EReal) = slotId P j.val then (1 : EReal) else 0) * slotVal P v j.val)
      = if P t = true then v t else 0 := by
  by_cases ht : P t = true
  · rw [if_pos ht]
    have hj : rank P t < 96 := (rank_lt_card ht).trans_le hP
    rw [Finset.sum_eq_single ⟨rank P t, hj⟩]
    · simp only [slotId_rank ht, slotVal_rank ht, if_true, one_mul]
    · intro j _ hne
      rw [if_neg, zero_mul]
      intro h
      exact hne (Fin.ext (slot_of_id h).2.symm)
    · intro h; exact absurd (Finset.mem_univ _) h
  · rw [if_neg ht]
    refine Finset.sum_eq_zero fun j _ => ?_
    rw [if_neg, zero_mul]
    intro h
    exact ht (slot_of_id h).1

end Cert.Moe
end
end
-- ==== Proof.Message.lean ====
/-
  WHAT A MESSAGE CARRIES, AND WHAT ITS RECEIVER ADDS, over the extended reals: the kernel's selection matrices read
  entry by entry as the slots of Packing.lean.
-/
module

public import proofs.«01_k».proof.Proof.Packing
public import Idealize.ShloMosaic.Lib.WordCmp

@[expose] public section
noncomputable section
namespace Cert.Moe
open Cert.KernelIdeal Cert.KernelIdeal.Gen
open Idealize.ShloMosaic

/-- A word's bit, widened and read as a number. -/
theorem bit_num (φ : FTy) (b : Bool) : (FloatOps.sitofp (F := Ideal) φ (BitVec.setWidth 32 (BitVec.ofBool b)) : Ideal φ) = if b = true then (1 : EReal) else 0 := by
  cases b
  · show (((0 : ℤ) : ℝ) : EReal) = _
    simp
  · show (((1 : ℤ) : ℝ) : EReal) = _
    simp

/-- A small number's word, read signed. -/
theorem toInt_small (n : ℕ) (h : n < 2 ^ 31) : (BitVec.ofNat 32 n).toInt = n := by
  rw [BitVec.toInt_ofNat', Int.bmod_eq_of_le (by omega) (by omega)]

/-- A small number's word, read as a number. -/
theorem num_word (φ : FTy) (n : ℕ) (h : n < 2 ^ 31) : (FloatOps.sitofp (F := Ideal) φ (BitVec.ofNat 32 n) : Ideal φ) = ((n : ℝ) : EReal) := by
  show (((BitVec.ofNat 32 n).toInt : ℝ) : EReal) = _
  rw [toInt_small n h, Int.cast_natCast]

/-- A small whole number's word. -/
theorem word_num (n : ℕ) (h : n < 2 ^ 31) : FloatOps.fptosi (F := Ideal) (φ := .f32) 32 ((n : ℝ) : EReal) = BitVec.ofNat 32 n := by
  show BitVec.ofInt 32 (max _ (min _ (if 0 ≤ ((n : ℕ) : ℝ) then ⌊(n : ℝ)⌋ else ⌈(n : ℝ)⌉))) = _
  rw [if_pos (Nat.cast_nonneg n), Int.floor_natCast]
  rw [show max (-(2 ^ (32 - 1) : Nat) : ℤ) (min ((2 ^ (32 - 1) : Nat) - 1 : ℤ) (n : ℤ)) = (n : ℤ) by push_cast; omega]
  exact BitVec.ofInt_natCast 32 n

/-- A sum of reals, taken among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of zeros and ones counts the ones. -/
theorem sum_count (p q : Fin 256 → Bool) :
    (∑ u : Fin 256, (if p u = true then (1 : EReal) else 0) * (if q u = true then (1 : EReal) else 0))
      = (((Finset.univ.filter fun u => p u = true ∧ q u = true).card : ℝ) : EReal) := by
  rw [Finset.card_filter, Nat.cast_sum, coe_sum]
  refine Finset.sum_congr rfl fun u _ => ?_
  by_cases h : p u = true <;> by_cases h' : q u = true <;> simp [h, h']

/-- Token `t`'s flag on the device of word `p`: one of its two experts is one of the device's. -/
def flag (p : BitVec 32) (i0 i1 : IVec S256x1 32) (t : Fin 256) : Bool :=
  (IntOp.divsi ArithUnit.vector (i0 (ix2 t 0)) 2#32 == p) || (IntOp.divsi ArithUnit.vector (i1 (ix2 t 0)) 2#32 == p)

/-- The kernel's flag bit. -/
theorem flag_word (p : BitVec 32) (i0 i1 : IVec S256x1 32) (t : Fin 256) :
    IntOp.ori (IntOp.cmpi .eq (IntOp.divsi ArithUnit.vector (i0 (ix2 t 0)) 2#32) p) (IntOp.cmpi .eq (IntOp.divsi ArithUnit.vector (i1 (ix2 t 0)) 2#32) p)
      = BitVec.ofBool (flag p i0 i1 t) :=
  WordCmp.ori_ofBool _ _

/-- The kernel's counting product is the rank. -/
theorem rank_word (P : Fin 256 → Bool) (t : Fin 256) :
    (∑ u : Fin 256, FloatOps.sitofp (F := Ideal) FTy.f32 (BitVec.setWidth 32 (IntOp.cmpi .slt (BitVec.ofNat 32 u.val) (BitVec.ofNat 32 t.val)))
        * FloatOps.sitofp (F := Ideal) FTy.f32 (BitVec.setWidth 32 (BitVec.ofBool (P u))) : EReal)
      = ((rank P t : ℝ) : EReal) := by
  have h (u : Fin 256) : IntOp.cmpi .slt (BitVec.ofNat 32 u.val) (BitVec.ofNat 32 t.val) = BitVec.ofBool (decide (u < t)) := by
    rw [WordCmp.cmpi_slt_eq]
    congr 1
    have hu := u.isLt
    have ht := t.isLt
    rw [toInt_small _ (by omega), toInt_small _ (by omega)]
    simp
  simp only [h, bit_num]
  rw [sum_count]
  simp only [rank, decide_eq_true_eq]

/-- The kernel's test that token `t` goes to slot `j`. -/
theorem slot_word (P : Fin 256 → Bool) (t : Fin 256) (j : ℕ) (hj : j < 256) :
    IntOp.andi (IntOp.cmpi .eq (FloatOps.fptosi (F := Ideal) (φ := .f32) 32
        (∑ u : Fin 256, FloatOps.sitofp (F := Ideal) FTy.f32 (BitVec.setWidth 32 (IntOp.cmpi .slt (BitVec.ofNat 32 u.val) (BitVec.ofNat 32 t.val)))
          * FloatOps.sitofp (F := Ideal) FTy.f32 (BitVec.setWidth 32 (BitVec.ofBool (P u))))) (BitVec.ofNat 32 j)) (BitVec.ofBool (P t))
      = BitVec.ofBool (inSlot P t j) := by
  have hr : rank P t ≤ 256 := (Finset.card_filter_le _ _).trans (by simp)
  rw [rank_word, word_num _ (by omega), WordCmp.cmpi_eq_eq]
  have : (BitVec.ofNat 32 (rank P t) = BitVec.ofNat 32 j) ↔ rank P t = j := by
    rw [← BitVec.toNat_inj, BitVec.toNat_ofNat, BitVec.toNat_ofNat, Nat.mod_eq_of_lt (by omega), Nat.mod_eq_of_lt (by omega)]
  rw [decide_eq_decide.2 this]
  exact WordCmp.andi_ofBool _ _

theorem select_bit {α : Type} (b : Bool) (x y : α) : Scalar.select (BitVec.ofBool b) x y = if b = true then x else y := by
  cases b <;> rfl

set_option maxRecDepth 16384 in
/-- Row `j` of a message carries slot `j` of the partial product's columns. -/
theorem rowsOf_apply (p : BitVec 32) (x : FVec Ideal S256x128 .bf16) (w : FVec Ideal S128x16 .bf16) (i0 i1 : IVec S256x1 32) (e : FVec Ideal S2x128x256 .bf16)
    (j : Fin 96) (f : Fin 256) :
    rowsOf (F := Ideal) p x w i0 i1 e (ix2 j f) = slotVal (flag p i0 i1) (fun t => partOf (F := Ideal) p x w i0 i1 e (ix2 t f)) j.val := by
  pointwise [rowsOf, k0_pay14, k0_pay13, k0_pay12, k0_pay11, k0_pay3, k0_pay4, k0_pay10]
  have hj := j.isLt
  simp only [flag_word, slot_word _ _ j.val (by omega), select_bit]
  rfl

set_option maxRecDepth 16384 in
/-- Entry `j` of a message's list of token numbers is slot `j`'s. -/
theorem idsOf_apply (p : BitVec 32) (i0 i1 : IVec S256x1 32) (j : Fin 256) :
    idsOf (F := Ideal) p i0 i1 (ix2 0 j) = slotId (flag p i0 i1) j.val := by
  pointwise [idsOf, k0_pay15, k0_pay13, k0_pay12, k0_pay11, k0_pay3, k0_pay4, k0_pay10]
  simp only [flag_word, slot_word _ _ j.val j.isLt, select_bit]
  unfold slotId
  refine congrArg (fun s : EReal => s - 1) (Finset.sum_congr rfl fun t _ => ?_)
  have ht := t.isLt
  rw [num_word _ _ (by omega)]

/-- What a receiver adds to token `t` for one message: the slots whose number is `t`. -/
def received (d : Vec Ideal S1x1x256 .bf16) (r : Vec Ideal S1x96x256 .bf16) (t f : Fin 256) : EReal :=
  ∑ j : Fin 96, (if ((t.val : ℝ) : EReal) = d (ix3 0 0 ⟨j.val, j.isLt.trans (by decide)⟩) then (1 : EReal) else 0) * r (ix3 0 j f)

/-- The kernel's product of one message is what its receiver adds. -/
theorem received_eq (d : Vec Ideal S1x1x256 .bf16) (r : Vec Ideal S1x96x256 .bf16) (t f : Fin 256) :
    (∑ j : Fin 96, FloatOps.sitofp (F := Ideal) FTy.f32 (BitVec.setWidth 32 (BitVec.ofBool (decide
        (FloatOps.sitofp (F := Ideal) FTy.bf16 (BitVec.ofNat 32 t.val) = d (ix3 0 0 ⟨j.val, j.isLt.trans (by decide)⟩))))) * r (ix3 0 j f) : EReal)
      = received d r t f := by
  have ht := t.isLt
  simp only [bit_num, num_word FTy.bf16 t.val (by omega), decide_eq_true_eq]
  rfl

section Receives
variable (a : FVec Ideal S256x256 .f32) (d d' : Vec Ideal S1x1x256 .bf16) (r r' : Vec Ideal S1x96x256 .bf16) (t f : Fin 256)

set_option maxRecDepth 16384 in
theorem pay18_apply : k0_pay18 (F := Ideal) a k0_pay16 (k0_pay17 d) r d' r' (ix2 t f) = a (ix2 t f) + received d r t f + received d' r' t f := by
  pointwise [k0_pay18, k0_pay16, k0_pay17]
  rw [received_eq d, received_eq d']

set_option maxRecDepth 16384 in
theorem pay19_apply : k0_pay19 (F := Ideal) k0_pay16 a d r d' r' (ix2 t f) = a (ix2 t f) + received d r t f + received d' r' t f := by
  pointwise [k0_pay19, k0_pay16]
  rw [received_eq d, received_eq d']

set_option maxRecDepth 16384 in
theorem pay20_apply : k0_pay20 (F := Ideal) k0_pay16 a d r (ix2 t f) = a (ix2 t f) + received d r t f := by
  pointwise [k0_pay20, k0_pay16]
  rw [received_eq d]

set_option maxRecDepth 16384 in
theorem pay22_apply : k0_pay22 (F := Ideal) k0_pay16 a (k0_pay21 k0_pay16 d r) d' r' (ix2 t f) = a (ix2 t f) + received d r t f + received d' r' t f := by
  pointwise [k0_pay22, k0_pay16, k0_pay21]
  rw [received_eq d, received_eq d']

end Receives

end Cert.Moe
end
end
-- ==== Proof.Capacity.lean ====
/-
  WHAT THE PRECONDITION SAYS: tokens and router weights are finite, expert numbers are below 16, and no device is asked
  for more than 96 tokens.
-/
module

public import proofs.«01_k».proof.Pre_within_capacity_KernelIdeal
public import proofs.«01_k».proof.Proof.Message
public import Idealize.ShloMosaic.Lib.ReduceAll
public import Idealize.ShloMosaic.Lib.Routing.OpsSearch

@[expose] public section
noncomputable section
namespace Cert.Moe
open Idealize.ShloMosaic

/-- The sum over the rows of a widened matrix of bits counts, column by column, the rows whose bit is set. -/
theorem column_count (msk : IVec ⟨2, ![256, 8]⟩ 1) (hw : 1 < 32) (h : (⟨2, ![256, 8]⟩ : Shape).ReducesTo [0] ⟨1, ![8]⟩)
    (hu : 0 < (⟨0, ![]⟩ : Shape).numel) (p : Fin 8) :
    Host.reduce IntOp.addi (extui 32 msk hw) (constantI ⟨0, ![]⟩ 32 0#32) h hu (ix1 p)
      = BitVec.ofNat 32 (Finset.univ.filter fun t : Fin 256 => msk (ix2 t p) = 1#1).card := by
  classical
  have hval : ∀ i, (extui 32 msk hw i).toNat = if msk i = 1#1 then 1 else 0 := fun i => StableHlo.Predicate.toNat_setWidth_bit (msk i)
  have hdrop : ∀ i : (⟨2, ![256, 8]⟩ : Shape).Idx, h.drop i = ix1 p ↔ i 1 = p := by
    intro i
    have hv0 : (h.drop i 0 : Nat) = i 1 := Shape.ReducesTo.drop_apply_val h i 0
    constructor
    · intro e
      rw [e] at hv0
      exact Fin.ext hv0.symm
    · intro e
      funext c
      match c with
      | ⟨0, _⟩ => exact Fin.ext (hv0.trans (congrArg Fin.val e))
  have hback : ∀ i : (⟨2, ![256, 8]⟩ : Shape).Idx, i 1 = p → ix2 (i 0) p = i := fun i hi => by
    funext c
    match c with
    | ⟨0, _⟩ => rfl
    | ⟨1, _⟩ => exact hi.symm
  have hsum : ∑ i ∈ Finset.univ.filter (fun i : (⟨2, ![256, 8]⟩ : Shape).Idx => h.drop i = ix1 p), (extui 32 msk hw i).toNat
      = (Finset.univ.filter (fun t : Fin 256 => msk (ix2 t p) = 1#1)).card := by
    rw [Finset.card_filter]
    refine Finset.sum_bij' (fun i _ => i 0) (fun t _ => ix2 t p) (fun _ _ => Finset.mem_univ _)
      (fun t _ => Finset.mem_filter.2 ⟨Finset.mem_univ _, (hdrop _).2 rfl⟩)
      (fun i hi => hback i ((hdrop i).1 (Finset.mem_filter.1 hi).2)) (fun _ _ => rfl) ?_
    intro i hi
    rw [hval]
    exact (congrArg (fun x => if msk x = 1#1 then 1 else 0) (hback i ((hdrop i).1 (Finset.mem_filter.1 hi).2))).symm
  have hle : (Finset.univ.filter (fun t : Fin 256 => msk (ix2 t p) = 1#1)).card ≤ 256 := (Finset.card_filter_le _ _).trans (by simp)
  apply BitVec.eq_of_toNat_eq
  rw [Host.reduce_eq_fold]
  show (Finset.fold IntOp.addi 0#32 (extui 32 msk hw) (Finset.univ.filter fun i : (⟨2, ![256, 8]⟩ : Shape).Idx => h.drop i = ix1 p)).toNat = _
  rw [StableHlo.Predicate.toNat_fold_addi _ _ (by rw [hsum]; omega), hsum, BitVec.toNat_ofNat, Nat.mod_eq_of_lt (by omega)]

/-- What the precondition says of one device's arguments. -/
structure Fits (x : FVec Ideal ⟨2, ![256, 128]⟩ .bf16) (w : FVec Ideal ⟨2, ![128, 16]⟩ .bf16) (i : IVec ⟨2, ![256, 2]⟩ 32) : Prop where
  /-- Token entries are finite. -/
  x_real : ∀ t d, ∃ r : ℝ, x (ix2 t d) = r
  /-- Router weights are finite. -/
  w_real : ∀ d e, ∃ r : ℝ, w (ix2 d e) = r
  /-- Expert numbers are below 16. -/
  expert : ∀ t k, ∃ a : Fin 16, i (ix2 t k) = BitVec.ofNat 32 a.val
  /-- At most 96 tokens name an expert of device `c`. -/
  count : ∀ c : Fin 8, (Finset.univ.filter fun t : Fin 256 => (IntOp.divsi ArithUnit.vector (i (ix2 t 0)) 2#32 == BitVec.ofNat 32 c.val
    || IntOp.divsi ArithUnit.vector (i (ix2 t 1)) 2#32 == BitVec.ofNat 32 c.val) = true).card ≤ 96

/-- Division by two is the same division in the precondition and in the kernel. -/
theorem divsi_two (u : ArithUnit) (v : BitVec 32) : IntOp.divsi u v 2#32 = v.sdiv 2#32 := by
  unfold IntOp.divsi
  rw [if_neg]
  rintro (h | ⟨_, h⟩) <;> exact absurd h (by decide)

/-- A magnitude below infinity is a real number's. -/
theorem real_of_abs_lt {y : EReal} (h : Ideal.cmp .olt (max y (-y)) (Ideal.ofBits .f32 0x7F800000#32) = 1#1) : ∃ r : ℝ, y = r := by
  have ht : Ideal.ofBits .f32 0x7F800000#32 = ⊤ := by simp [Ideal.ofBits, Ideal.ieee]
  rw [ht] at h
  induction y with
  | bot => exfalso; revert h; simp [Ideal.cmp]
  | top => exfalso; revert h; simp [Ideal.cmp]
  | coe r => exact ⟨r, rfl⟩

set_option maxRecDepth 16384 in
/-- The precondition, read. -/
theorem fits_of_pre [Cert.Pre_within_capacity_KernelIdeal.Facts] (x : FVec Ideal ⟨2, ![256, 128]⟩ .bf16) (w : FVec Ideal ⟨2, ![128, 16]⟩ .bf16)
    (i : IVec ⟨2, ![256, 2]⟩ 32) (e : FVec Ideal ⟨3, ![2, 128, 256]⟩ .bf16)
    (h : Cert.Pre_within_capacity_KernelIdeal.fn (F := Ideal) x w i e = fun _ => 1#1) : Fits x w i := by
  have h0 := congrFun h ix0
  dsimp only [Cert.Pre_within_capacity_KernelIdeal.fn, Cert.Pre_within_capacity_KernelIdeal.fn_part1] at h0
  obtain ⟨h1, hcount⟩ := IntOp.andi_eq_one.1 h0
  obtain ⟨h2, hidx⟩ := IntOp.andi_eq_one.1 h1
  obtain ⟨hx, hw⟩ := IntOp.andi_eq_one.1 h2
  refine ⟨fun t d => ?_, fun d e => ?_, fun t k => ?_, fun c => ?_⟩
  · have := Host.reduce_andi_all _ _ _ _ _ hx (ix2 t d)
    exact real_of_abs_lt this
  · have := Host.reduce_andi_all _ _ _ _ _ hw (ix2 d e)
    exact real_of_abs_lt this
  · have := Host.reduce_andi_all _ _ _ _ _ hidx (ix2 t k)
    obtain ⟨ha, hb⟩ := IntOp.andi_eq_one.1 this
    have ha' := (WordCmp.cmpi_sge_eq (i (ix2 t k)) 0#32).symm.trans ha
    have hb' := (WordCmp.cmpi_slt_eq (i (ix2 t k)) 16#32).symm.trans hb
    have ha2 : 0 ≤ (i (ix2 t k)).toInt := by
      by_contra hc
      rw [decide_eq_false (by simpa using hc)] at ha'
      exact absurd ha' (by decide)
    have hb2 : (i (ix2 t k)).toInt < 16 := by
      by_contra hc
      rw [decide_eq_false (by simpa using hc)] at hb'
      exact absurd hb' (by decide)
    have hn : (i (ix2 t k)).toNat < 16 := by
      rw [BitVec.toInt_eq_toNat_cond] at ha2 hb2
      have := (i (ix2 t k)).isLt
      split_ifs at ha2 hb2 <;> omega
    exact ⟨⟨_, hn⟩, (BitVec.ofNat_toNat 32 _ ▸ (by simp) : i (ix2 t k) = BitVec.ofNat 32 (i (ix2 t k)).toNat)⟩
  · have := Host.reduce_andi_all _ _ _ _ _ hcount (ix1 c)
    have h3 := (congrArg (fun v => IntOp.cmpi .sle v 96#32) (column_count _ _ _ _ c)).symm.trans this
    have hle (q : Fin 256 → Prop) [DecidablePred q] : (Finset.univ.filter fun t : Fin 256 => q t).card ≤ 256 := (Finset.card_filter_le _ _).trans (by simp)
    rw [show (96#32 : BitVec 32) = BitVec.ofNat 32 96 from rfl, WordCmp.cmpi_sle_ofNat_eq_one_iff (by have := hle; simp only [Nat.reduceSub, Nat.reducePow]; exact (this _).trans_lt (by omega)) (by decide)] at h3
    refine le_trans (Finset.card_le_card fun t ht => ?_) h3
    rw [Finset.mem_filter] at ht ⊢
    refine ⟨ht.1, ?_⟩
    pointwise
    rw [divsi_two .host, divsi_two .host, ← divsi_two .vector, ← divsi_two .vector]
    exact (WordCmp.ori_ofBool _ _).trans (congrArg BitVec.ofBool ht.2)
end Cert.Moe
end
end
-- ==== Proof.Mixture.lean ====
/-
  THE MIXTURE OF EXPERTS AS ARITHMETIC over the extended reals: a softmax of finite scores is positive and finite, so a
  gate is a nonnegative real, and gating a token before the experts' products or after them is the same.
-/
module

public import proofs.«01_k».proof.Proof.Message

@[expose] public section
noncomputable section
namespace Cert.Moe
open Idealize.ShloMosaic

/-- The largest score of a token (the operation starts from minus infinity). -/
def rowMax (s : Fin 16 → EReal) : EReal := Finset.fold max (Ideal.ofBits FTy.f32 0xFF800000#32) s Finset.univ

/-- The softmax of a token's scores. -/
def softmax (s : Fin 16 → EReal) (e : Fin 16) : EReal :=
  Ideal.div (Ideal.exp (s e - rowMax s)) (∑ e' : Fin 16, Ideal.exp (s e' - rowMax s))

theorem ofBits_bot : Ideal.ofBits FTy.f32 0xFF800000#32 = ⊥ := by simp [Ideal.ofBits, Ideal.ieee]

theorem rowMax_real {s : Fin 16 → EReal} (hs : ∀ e, ∃ r : ℝ, s e = r) : ∃ r : ℝ, rowMax s = r := by
  have h1 : rowMax s < ⊤ := by
    unfold rowMax
    rw [Finset.fold_max_lt, ofBits_bot]
    refine ⟨bot_lt_top, fun e _ => ?_⟩
    obtain ⟨r, hr⟩ := hs e
    rw [hr]; exact EReal.coe_lt_top r
  have h2 : ⊥ < rowMax s := by
    unfold rowMax
    rw [Finset.lt_fold_max]
    obtain ⟨r, hr⟩ := hs 0
    exact Or.inr ⟨0, Finset.mem_univ _, by rw [hr]; exact EReal.bot_lt_coe r⟩
  exact ⟨(rowMax s).toReal, (EReal.coe_toReal h1.ne h2.ne').symm⟩

/-- The softmax of finite scores is positive and finite. -/
theorem softmax_pos {s : Fin 16 → EReal} (hs : ∀ e, ∃ r : ℝ, s e = r) (e : Fin 16) : ∃ r : ℝ, 0 < r ∧ softmax s e = r := by
  choose q hq using hs
  obtain ⟨M, hM⟩ := rowMax_real (s := s) fun e => ⟨q e, hq e⟩
  have hexp (e' : Fin 16) : Ideal.exp (s e' - rowMax s) = ((Real.exp (q e' - M) : ℝ) : EReal) := by
    rw [hq, hM, ← EReal.coe_sub]; rfl
  have hpos : 0 < ∑ e' : Fin 16, Real.exp (q e' - M) := Finset.sum_pos (fun e' _ => Real.exp_pos _) ⟨0, Finset.mem_univ _⟩
  refine ⟨Real.exp (q e - M) * (1 / ∑ e' : Fin 16, Real.exp (q e' - M)), mul_pos (Real.exp_pos _) (one_div_pos.2 hpos), ?_⟩
  unfold softmax
  simp only [hexp]
  rw [← coe_sum, Ideal.div_coe hpos.ne', EReal.coe_mul]

/-- The share of one of a token's two probabilities in their sum is a nonnegative real. -/
theorem share_real {p q : EReal} (hp : ∃ r : ℝ, 0 < r ∧ p = r) (hq : ∃ r : ℝ, 0 < r ∧ q = r) :
    ∃ r : ℝ, 0 ≤ r ∧ Ideal.div p (p + q) = r := by
  obtain ⟨a, ha, rfl⟩ := hp
  obtain ⟨b, hb, rfl⟩ := hq
  have h : 0 ≤ a * (1 / (a + b)) := by positivity
  exact ⟨a * (1 / (a + b)), h, by rw [← EReal.coe_add, Ideal.div_coe (by positivity), EReal.coe_mul]⟩

/-- A nonnegative real multiplies into a sum of extended reals term by term. -/
theorem mul_sum_real {ι : Type*} (s : Finset ι) {r : EReal} (h0 : 0 ≤ r) (ht : r ≠ ⊤) (f : ι → EReal) : r * ∑ i ∈ s, f i = ∑ i ∈ s, r * f i := by
  classical
  induction s using Finset.induction_on with
  | empty => simp
  | insert a s ha ih => rw [Finset.sum_insert ha, Finset.sum_insert ha, EReal.left_distrib_of_nonneg_of_ne_top h0 ht, ih]

/-- Expert `e`'s gate on a token whose two experts are `a` and `b`, of weights `α` and `β`. -/
def gateOf (a b : Fin 16) (α β : EReal) (e : Fin 16) : EReal := (if a = e then α else 0) + (if b = e then β else 0)

/-- What expert `e` contributes to one entry of a token's result, the token gated first. -/
def contribution (x : Fin 128 → EReal) (W : Fin 16 → Fin 128 → EReal) (a b : Fin 16) (α β : EReal) (e : Fin 16) : EReal :=
  ∑ d : Fin 128, x d * gateOf a b α β e * W e d

/-- An expert that is neither of the token's two contributes nothing. -/
theorem contribution_zero {x : Fin 128 → EReal} {W : Fin 16 → Fin 128 → EReal} {a b : Fin 16} {α β : EReal} {e : Fin 16} (ha : a ≠ e) (hb : b ≠ e) :
    contribution x W a b α β e = 0 := by
  unfold contribution gateOf
  rw [if_neg ha, if_neg hb]
  exact Finset.sum_eq_zero fun d _ => by rw [add_zero, mul_zero, zero_mul]

/-- An expert's contribution, its gate taken out of the product. -/
theorem contribution_eq (x : Fin 128 → EReal) (W : Fin 16 → Fin 128 → EReal) (a b : Fin 16) {α β : EReal}
    (hα : 0 ≤ α) (hα' : α ≠ ⊤) (hβ : 0 ≤ β) (hβ' : β ≠ ⊤) (e : Fin 16) :
    contribution x W a b α β e
      = (if a = e then α * ∑ d : Fin 128, x d * W e d else 0) + (if b = e then β * ∑ d : Fin 128, x d * W e d else 0) := by
  have h1 : (0 : EReal) ≤ if a = e then α else 0 := by split_ifs <;> simp [hα]
  have h2 : (0 : EReal) ≤ if b = e then β else 0 := by split_ifs <;> simp [hβ]
  have h1' : (if a = e then α else 0) ≠ (⊤ : EReal) := by split_ifs <;> simp [hα']
  have h2' : (if b = e then β else 0) ≠ (⊤ : EReal) := by split_ifs <;> simp [hβ']
  have hd (d : Fin 128) : x d * gateOf a b α β e * W e d
      = (if a = e then α else 0) * (x d * W e d) + (if b = e then β else 0) * (x d * W e d) := by
    unfold gateOf
    rw [← EReal.right_distrib_of_nonneg h1 h2, mul_comm (x d), mul_assoc]
  unfold contribution
  rw [Finset.sum_congr rfl fun d _ => hd d, Finset.sum_add_distrib, ← mul_sum_real _ h1 h1', ← mul_sum_real _ h2 h2', ite_mul, ite_mul, zero_mul]

/-- All experts' contributions are the two chosen experts' products, weighted. -/
theorem contributions (x : Fin 128 → EReal) (W : Fin 16 → Fin 128 → EReal) (a b : Fin 16) {α β : EReal}
    (hα : 0 ≤ α) (hα' : α ≠ ⊤) (hβ : 0 ≤ β) (hβ' : β ≠ ⊤) :
    ∑ e : Fin 16, contribution x W a b α β e = α * (∑ d : Fin 128, x d * W a d) + β * ∑ d : Fin 128, x d * W b d := by
  simp only [contribution_eq x W a b hα hα' hβ hβ']
  rw [Finset.sum_add_distrib, Finset.sum_ite_eq Finset.univ a, Finset.sum_ite_eq Finset.univ b, if_pos (Finset.mem_univ _), if_pos (Finset.mem_univ _)]

/-- The sixteen experts, two by two. -/
theorem sum_pairs (F : Fin 16 → EReal) :
    ∑ c : Fin 8, (F ⟨c.val * 2, by omega⟩ + F ⟨c.val * 2 + 1, by omega⟩) = ∑ e : Fin 16, F e := by
  rw [Fin.sum_univ_eight]
  simp only [Fin.sum_univ_succ, Finset.univ_eq_empty, Finset.sum_empty, add_zero]
  simp only [add_assoc]
  rfl

end Cert.Moe
end
end
-- ==== Proof.Block.lean ====
/-
  ONE DEVICE'S PARTIAL PRODUCT over the extended reals: its two experts' contributions to every token's row.
-/
module

public import proofs.«01_k».proof.Proof.Mixture

@[expose] public section
noncomputable section
namespace Cert.Moe
open Cert.KernelIdeal Cert.KernelIdeal.Gen
open Idealize.ShloMosaic

/-- Token `t`'s router scores. -/
def scores (x : FVec Ideal S256x128 .bf16) (w : FVec Ideal S128x16 .bf16) (t : Fin 256) (e : Fin 16) : EReal :=
  ∑ d : Fin 128, x (ix2 t d) * w (ix2 d e)

/-- The weight of expert `a` on token `t`, `b` being the token's other expert. -/
def weight (x : FVec Ideal S256x128 .bf16) (w : FVec Ideal S128x16 .bf16) (t : Fin 256) (p a b : Fin 16) : EReal :=
  Ideal.div (softmax (scores x w t) p) (softmax (scores x w t) a + softmax (scores x w t) b)

section Kernel
variable (x : FVec Ideal S256x128 .bf16) (w : FVec Ideal S128x16 .bf16) (t : Fin 256)

set_option maxRecDepth 16384 in
theorem pay2_apply (e : Fin 16) : k0_pay2 (F := Ideal) x w (ix2 t e) = softmax (scores x w t) e := by
  pointwise [k0_pay2, k0_pay1]
  rfl

/-- Two small numbers have the same word only if they are the same. -/
theorem word_eq (a b : ℕ) (ha : a < 2 ^ 31) (hb : b < 2 ^ 31) :
    IntOp.cmpi .eq (BitVec.ofNat 32 a) (BitVec.ofNat 32 b) = BitVec.ofBool (decide (a = b)) := by
  rw [WordCmp.cmpi_eq_eq]
  congr 1
  rw [decide_eq_decide, ← BitVec.toNat_inj, BitVec.toNat_ofNat, BitVec.toNat_ofNat, Nat.mod_eq_of_lt (by omega), Nat.mod_eq_of_lt (by omega)]

/-- Adding up a row where it meets one expert's word picks that expert's entry. -/
theorem pick (v : Fin 16 → EReal) (a : Fin 16) :
    ∑ e : Fin 16, Scalar.select (IntOp.cmpi .eq (BitVec.ofNat 32 e.val) (BitVec.ofNat 32 a.val)) (v e) 0 = v a := by
  have h (e : Fin 16) : Scalar.select (IntOp.cmpi .eq (BitVec.ofNat 32 e.val) (BitVec.ofNat 32 a.val)) (v e) 0 = if e = a then v e else 0 := by
    rw [word_eq _ _ (by omega) (by omega), select_bit]
    simp only [decide_eq_true_eq, Fin.val_inj]
  rw [Finset.sum_congr rfl fun e _ => h e, Finset.sum_ite_eq' Finset.univ a, if_pos (Finset.mem_univ _)]

variable {i0 i1 : IVec S256x1 32} {a b : Fin 16}

set_option maxRecDepth 16384 in
theorem pay5_apply (h : i0 (ix2 t 0) = BitVec.ofNat 32 a.val) : k0_pay5 (F := Ideal) x w i0 (ix2 t 0) = softmax (scores x w t) a := by
  pointwise [k0_pay5, k0_pay3]
  simp only [h, pay2_apply]
  exact pick _ a

set_option maxRecDepth 16384 in
theorem pay6_apply (h : i1 (ix2 t 0) = BitVec.ofNat 32 b.val) : k0_pay6 (F := Ideal) x w i1 (ix2 t 0) = softmax (scores x w t) b := by
  pointwise [k0_pay6, k0_pay4]
  simp only [h, pay2_apply]
  exact pick _ b

theorem gate_word (α : EReal) (a : Fin 16) (c : Fin 8) (k : ℕ) (hk : k < 2) :
    Scalar.select (IntOp.cmpi .eq (BitVec.ofNat 32 a.val) (Scalar.addi (Scalar.muli (BitVec.ofNat 32 c.val) 2#32) (BitVec.ofNat 32 k))) α 0
      = if a = ⟨c.val * 2 + k, by omega⟩ then α else 0 := by
  have h : Scalar.addi (Scalar.muli (BitVec.ofNat 32 c.val) 2#32) (BitVec.ofNat 32 k) = BitVec.ofNat 32 (c.val * 2 + k) := by
    show IntOp.addi (IntOp.muli (BitVec.ofNat 32 c.val) (BitVec.ofNat 32 2)) (BitVec.ofNat 32 k) = _
    rw [WordCmp.muli_ofNat, WordCmp.addi_ofNat]
  rw [h, word_eq _ _ (by omega) (by omega), select_bit]
  simp only [decide_eq_true_eq, Fin.ext_iff]

set_option maxRecDepth 16384 in
/-- Entry `(t, f)` of device `c`'s partial product: the contributions of experts `2 c` and `2 c + 1`. -/
theorem partOf_apply (c : Fin 8) (h0 : i0 (ix2 t 0) = BitVec.ofNat 32 a.val) (h1 : i1 (ix2 t 0) = BitVec.ofNat 32 b.val)
    (e : FVec Ideal S2x128x256 .bf16) (W : Fin 16 → Fin 128 → Fin 256 → EReal) (f : Fin 256)
    (he : ∀ (k : Fin 2) (d : Fin 128), e (ix3 k d f) = W ⟨c.val * 2 + k.val, by omega⟩ d f) :
    partOf (F := Ideal) (BitVec.ofNat 32 c.val) x w i0 i1 e (ix2 t f)
      = contribution (fun d => x (ix2 t d)) (fun e d => W e d f) a b (weight x w t a a b) (weight x w t b a b) ⟨c.val * 2, by omega⟩
        + contribution (fun d => x (ix2 t d)) (fun e d => W e d f) a b (weight x w t a a b) (weight x w t b a b) ⟨c.val * 2 + 1, by omega⟩ := by
  pointwise [partOf, k0_pay9, k0_pay8, k0_pay3, k0_pay4, k0_pay1, k0_pay7]
  simp only [pay5_apply x w t h0, pay6_apply x w t h1, h0, h1]
  have g (α : EReal) (a : Fin 16) := gate_word α a c 0 (by omega)
  have g' (α : EReal) (a : Fin 16) := gate_word α a c 1 (by omega)
  simp only [g, g']
  refine congrArg₂ (fun u v : EReal => u + v) (Finset.sum_congr rfl fun d _ => ?_) (Finset.sum_congr rfl fun d _ => ?_)
  · have hd := d.isLt
    have e1 : (⟨d.val / 128, by omega⟩ : Fin 2) = 0 := Fin.ext (by show d.val / 128 = 0; omega)
    have e2 : (⟨d.val % 128, by omega⟩ : Fin 128) = d := Fin.ext (by show d.val % 128 = d.val; omega)
    rw [e1, e2, he]
    rfl
  · have hd := d.isLt
    have e1 : (⟨(128 + d.val) / 128, by omega⟩ : Fin 2) = 1 := Fin.ext (by show (128 + d.val) / 128 = 1; omega)
    have e2 : (⟨(128 + d.val) % 128, by omega⟩ : Fin 128) = d := Fin.ext (by show (128 + d.val) % 128 = d.val; omega)
    rw [e1, e2, he]
    rfl

end Kernel

end Cert.Moe
end
end
-- ==== Proof.RefValue.lean ====
/-
  THE REFERENCE'S RESULT, entry by entry over the extended reals: each token's two experts' products, weighted by the
  two experts' shares of the router's softmax.
-/
module

public import proofs.«01_k».proof.Proof.Block
public import proofs.«01_k».proof.Proof.Gen.ReferenceIdeal.Run
public import Idealize.ShloMosaic.Lib.Routing.OpsPair

@[expose] public section
noncomputable section
namespace Cert.Moe
open Cert.ReferenceIdeal Cert.ReferenceIdeal.Gen
open Idealize.ShloMosaic

section Terms
variable (x : FVec Ideal S256x128 .bf16) (w : FVec Ideal S128x16 .bf16) (i : IVec S256x2 32) (e : FVec Ideal S16x128x256 .bf16)

/-- The reference's router scores. -/
def refScores : FVec Ideal S256x16 .f32 :=
  Host.dotGeneral dot_S256x128_S128x16_S256x16_1_0_0_1_n_n none (extf .f32 x bitsLt_bf16_f32) (extf .f32 w bitsLt_bf16_f32)

/-- The exponentials of its scores, the row's largest taken off. -/
def refExp : FVec Ideal S256x16 .f32 :=
  Host.exp (subf (refScores x w) (broadcastInDim S256x16 ![0, 1] bcast_S256x1_S256x16_0_1 (broadcastInDim S256x1 ![0] bcast_S256_S256x1_0
    (Host.reduce FloatOps.maximumf (refScores x w) (constant S_ .f32 0xFF800000#32) reducesTo_S256x16_S256_d1 h_S_))))

/-- Its softmax. -/
def refProbs : FVec Ideal S256x16 .f32 :=
  Host.divf (refExp x w) (broadcastInDim S256x16 ![0, 1] bcast_S256x1_S256x16_0_1 (broadcastInDim S256x1 ![0] bcast_S256_S256x1_0
    (Host.reduceAdd (refExp x w) (constant S_ .f32 0x00000000#32) reducesTo_S256x16_S256_d1 h_S_)))

/-- The expert numbers it gathers at. -/
def refIdx : IVec S256x2x1 32 :=
  shapeCast _ (select (cmpi .slt i (broadcastInDim S256x2 ![] bcast_S_S256x2 (constantI S_ 32 0#32)))
    (addi i (broadcastInDim S256x2 ![] bcast_S_S256x2 (constantI S_ 32 16#32))) i) shapeCasts_S256x2_S256x2x1

/-- Each token's two gathered probabilities. -/
def refG : FVec Ideal S256x2 .f32 := Host.gather gather_S256x16_S256x2x1_S256x2_n_1_0_0_1_2_11 (refProbs x w) (refIdx i)

/-- The first of the two, and the second. -/
def refG0 : FVec Ideal S256x1 .f32 := extractStridedSlice S256x1 ![0, 0] (refG x w i) slices_S256x2_S256x1_0_0
def refG1 : FVec Ideal S256x1 .f32 := extractStridedSlice S256x1 ![0, 1] (refG x w i) slices_S256x2_S256x1_0_1

/-- A column of expert numbers, as the reference gathers the experts' weights at it. -/
def refCol (v : IVec S256x1 32) : IVec S256x1 32 :=
  broadcastInDim S256x1 ![0] bcast_S256_S256x1_0 (select (cmpi .slt (shapeCast _ v shapeCasts_S256x1_S256) (broadcastInDim S256 ![] bcast_S_S256 (constantI S_ 32 0#32)))
    (addi (shapeCast _ v shapeCasts_S256x1_S256) (broadcastInDim S256 ![] bcast_S_S256 (constantI S_ 32 16#32))) (shapeCast _ v shapeCasts_S256x1_S256))

/-- Every token times the weights of the expert its column names. -/
def refY (v : IVec S256x1 32) : FVec Ideal S256x256 .f32 :=
  Host.dotGeneral dot_S256x128_S256x128x256_S256x256_1_1_n_2_0_0 none (extf .f32 x bitsLt_bf16_f32)
    (Host.gather gather_S16x128x256_S256x1_S256x128x256_12_0_n_n_0_1_1128256 (extf .f32 e bitsLt_bf16_f32) (refCol v))

/-- The reference's result. -/
def refOut : FVec Ideal S256x256 .bf16 :=
  truncf .bf16 (addf
    (mulf (broadcastInDim S256x256 ![0, 1] bcast_S256x1_S256x256_0_1 (Host.divf (refG0 x w i) (addf (refG0 x w i) (refG1 x w i))))
      (refY x e (extractStridedSlice S256x1 ![0, 0] i slices_S256x2_S256x1_0_0)))
    (mulf (broadcastInDim S256x256 ![0, 1] bcast_S256x1_S256x256_0_1 (Host.divf (refG1 x w i) (addf (refG0 x w i) (refG1 x w i))))
      (refY x e (extractStridedSlice S256x1 ![0, 1] i slices_S256x2_S256x1_0_1)))) bitsLt_bf16_f32

end Terms

set_option maxRecDepth 16384 in
/-- The reference's run ends at this term. -/
theorem res_eq_refOut (m : (ℓ : Loc nD τ sig) → Buf (Elt Ideal) ℓ) (c : Dev nD) :
    Cert.ReferenceIdeal.Value.res_main_v46 (F := Ideal) m c
      = refOut (m ((c.tc : Thread nD τ).loc main_arg0)) (m ((c.tc : Thread nD τ).loc main_arg1)) (m ((c.tc : Thread nD τ).loc main_arg2)) (m ((c.tc : Thread nD τ).loc main_arg3)) := rfl

section Gathers

/-- The gather of probabilities reads, at `(t, k)`, row `t` at the number the index array holds there. -/
theorem gatherP {α : Type} (v : S256x16.Idx → α) (idx : IVec S256x2x1 32) (t : Fin 256) (k : Fin 2) :
    Host.gather gather_S256x16_S256x2x1_S256x2_n_1_0_0_1_2_11 v idx (ix2 t k)
      = v (ix2 t ⟨min (idx (ix3 t k 0)).toInt.toNat 15, by omega⟩) := by
  unfold Host.gather
  congr 1
  funext a
  refine Fin.ext ?_
  show gather_S256x16_S256x2x1_S256x2_n_1_0_0_1_2_11.start (ix2 t k) idx a + gather_S256x16_S256x2x1_S256x2_n_1_0_0_1_2_11.batchCoord (ix2 t k) a
    + gather_S256x16_S256x2x1_S256x2_n_1_0_0_1_2_11.offCoord (ix2 t k) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S256x16_S256x2x1_S256x2_n_1_0_0_1_2_11.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S256x16_S256x2x1_S256x2_n_1_0_0_1_2_11.startIndexMap from List.mem_singleton.mpr rfl)]
    have hsi : gather_S256x16_S256x2x1_S256x2_n_1_0_0_1_2_11.siIdx (ix2 t k) ⟨List.idxOf (1 : Fin 2) gather_S256x16_S256x2x1_S256x2_n_1_0_0_1_2_11.startIndexMap,
        List.idxOf_lt_length_iff.2 (List.mem_singleton.mpr rfl)⟩ = ix3 t k 0 := by
      funext b; refine Fin.ext ?_
      match b with
      | ⟨0, _⟩ => rfl
      | ⟨1, _⟩ => rfl
      | ⟨2, _⟩ => rfl
    rw [hsi]
    rfl

/-- The gather of experts' weights reads, at `(t, d, f)`, the weights of the expert whose number the index array holds at `t`. -/
theorem gatherW {α : Type} (v : S16x128x256.Idx → α) (idx : IVec S256x1 32) (t : Fin 256) (d : Fin 128) (f : Fin 256) :
    Host.gather gather_S16x128x256_S256x1_S256x128x256_12_0_n_n_0_1_1128256 v idx (ix3 t d f)
      = v (ix3 ⟨min (idx (ix2 t 0)).toInt.toNat 15, by omega⟩ d f) := by
  unfold Host.gather
  congr 1
  funext a
  refine Fin.ext ?_
  show gather_S16x128x256_S256x1_S256x128x256_12_0_n_n_0_1_1128256.start (ix3 t d f) idx a + gather_S16x128x256_S256x1_S256x128x256_12_0_n_n_0_1_1128256.batchCoord (ix3 t d f) a
    + gather_S16x128x256_S256x1_S256x128x256_12_0_n_n_0_1_1128256.offCoord (ix3 t d f) a = _
  rw [GatherDims.batchCoord_eq_zero _ _ _ (fun h => absurd h List.not_mem_nil)]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S16x128x256_S256x1_S256x128x256_12_0_n_n_0_1_1128256.startIndexMap from List.mem_singleton.mpr rfl)]
    have hsi : gather_S16x128x256_S256x1_S256x128x256_12_0_n_n_0_1_1128256.siIdx (ix3 t d f) ⟨List.idxOf (0 : Fin 3) gather_S16x128x256_S256x1_S256x128x256_12_0_n_n_0_1_1128256.startIndexMap,
        List.idxOf_lt_length_iff.2 (List.mem_singleton.mpr rfl)⟩ = ix2 t 0 := by
      funext b; refine Fin.ext ?_
      match b with
      | ⟨0, _⟩ => rfl
      | ⟨1, _⟩ => rfl
    rw [hsi]
    rfl
  · unfold GatherDims.start
    rw [dif_neg (show ¬ (1 : Fin 3) ∈ gather_S16x128x256_S256x1_S256x128x256_12_0_n_n_0_1_1128256.startIndexMap from fun h => absurd (List.mem_singleton.mp h) (by decide : ¬ (1 : Fin 3) = 0))]
    simp only [Nat.zero_add, Nat.add_zero]
    unfold GatherDims.offCoord
    rw [dif_pos ((GatherDims.mem_sKept _ _).mpr ⟨fun h => absurd (List.mem_singleton.mp h) (by decide : ¬ (1 : Fin 3) = 0), List.not_mem_nil⟩)]
    rfl
  · unfold GatherDims.start
    rw [dif_neg (show ¬ (2 : Fin 3) ∈ gather_S16x128x256_S256x1_S256x128x256_12_0_n_n_0_1_1128256.startIndexMap from fun h => absurd (List.mem_singleton.mp h) (by decide : ¬ (2 : Fin 3) = 0))]
    simp only [Nat.zero_add, Nat.add_zero]
    unfold GatherDims.offCoord
    rw [dif_pos ((GatherDims.mem_sKept _ _).mpr ⟨fun h => absurd (List.mem_singleton.mp h) (by decide : ¬ (2 : Fin 3) = 0), List.not_mem_nil⟩)]
    rfl

/-- A small expert number, read back from its word and clamped into range. -/
theorem clamp_word (a : Fin 16) (h : min (BitVec.ofNat 32 a.val).toInt.toNat 15 < 16) :
    (⟨min (BitVec.ofNat 32 a.val).toInt.toNat 15, h⟩ : Fin 16) = a := by
  have ha := a.isLt
  refine Fin.ext ?_
  show min (BitVec.ofNat 32 a.val).toInt.toNat 15 = a.val
  rw [toInt_small _ (by omega)]
  omega

/-- A small number's word is not negative, so no 16 is added to it. -/
theorem wrap_word (a : Fin 16) (y : BitVec 32) :
    Scalar.select (IntOp.cmpi .slt (BitVec.ofNat 32 a.val) 0#32) y (BitVec.ofNat 32 a.val) = BitVec.ofNat 32 a.val :=
  Routing.wrap_of_lt _ _ (by rw [BitVec.toNat_ofNat]; have := a.isLt; omega)

end Gathers

section Reads
variable (x : FVec Ideal S256x128 .bf16) (w : FVec Ideal S128x16 .bf16) (i : IVec S256x2 32) (e : FVec Ideal S16x128x256 .bf16)
variable (t : Fin 256)

set_option maxRecDepth 16384 in
theorem refProbs_apply (a : Fin 16) : refProbs x w (ix2 t a) = softmax (scores x w t) a := by
  pointwise [refProbs, refExp, refScores]
  rfl

variable {i}

set_option maxRecDepth 16384 in
theorem refG_apply (k : Fin 2) {a : Fin 16} (h : i (ix2 t k) = BitVec.ofNat 32 a.val) : refG x w i (ix2 t k) = softmax (scores x w t) a := by
  have hi : refIdx i (ix3 t k 0) = BitVec.ofNat 32 a.val := by
    pointwise [refIdx]
    rw [h, wrap_word]
  unfold refG
  rw [gatherP]
  simp only [hi]
  rw [clamp_word, refProbs_apply]

set_option maxRecDepth 16384 in
theorem refY_apply (v : IVec S256x1 32) {a : Fin 16} (h : v (ix2 t 0) = BitVec.ofNat 32 a.val) (f : Fin 256) :
    refY x e v (ix2 t f) = ∑ d : Fin 128, x (ix2 t d) * e (ix3 a d f) := by
  have hi : refCol v (ix2 t 0) = BitVec.ofNat 32 a.val := by
    pointwise [refCol]
    rw [h, wrap_word]
  pointwise [refY]
  simp only [gatherW, hi, clamp_word]
  rfl

set_option maxRecDepth 16384 in
/-- Entry `(t, f)` of the reference's result, `a` and `b` being token `t`'s experts. -/
theorem refOut_apply {a b : Fin 16} (h0 : i (ix2 t 0) = BitVec.ofNat 32 a.val) (h1 : i (ix2 t 1) = BitVec.ofNat 32 b.val) (f : Fin 256) :
    refOut x w i e (ix2 t f)
      = weight x w t a a b * (∑ d : Fin 128, x (ix2 t d) * e (ix3 a d f)) + weight x w t b a b * ∑ d : Fin 128, x (ix2 t d) * e (ix3 b d f) := by
  pointwise [refOut, refG0, refG1]
  rw [refG_apply x w t 0 h0, refG_apply x w t 1 h1, refY_apply x e t (extractStridedSlice S256x1 ![0, 0] i slices_S256x2_S256x1_0_0) (a := a) (by pointwise; exact h0),
    refY_apply x e t (extractStridedSlice S256x1 ![0, 1] i slices_S256x2_S256x1_0_1) (a := b) (by pointwise; exact h1)]
  rfl

end Reads
end Cert.Moe
end
end
-- ==== Proof.Equation.lean ====
/-
  THE EQUATION: what each device of the kernel ends with is the reference's result.

  A device adds to its own share what its seven peers sent it. A message brings back exactly its sender's share, because
  a token the sender does not send is one its experts contribute nothing to. So the device ends with the eight shares
  added up, which is the sixteen experts' contributions, which is the weighted pair of products the reference forms.
-/
module

public import proofs.«01_k».proof.Defs
public import proofs.«01_k».proof.Proof.Launch
public import proofs.«01_k».proof.Proof.Capacity
public import proofs.«01_k».proof.Proof.RefValue
public import Idealize.ShloMosaic.Lib.Layout
public import Idealize.ShloMosaic.Lib.Pointwise.IndexBridge

@[expose] public section
noncomputable section
namespace Cert.Moe
open Cert.KernelIdeal Cert.KernelIdeal.Gen
open Idealize.ShloMosaic
open Idealize.ShloMosaic.TcCoe
open Idealize.SL.Sem

/-! ## What the body reads is the program's arrays -/

section Reads
variable (m : (ℓ : Loc nD τ sig) → Buf (Elt Ideal) ℓ) (ρ : Dev nD → PrngReg) (c : Dev nD)

/-- The window of the tokens reads them where they lie. -/
theorem X0_apply (x : S256x128.Idx) : X0 m ρ c x = m ((c.tc : Thread nD τ).loc main_arg0) x := by
  refine congrArg (m ((c.tc : Thread nD τ).loc main_arg0)) (funext fun a => ?_)
  fin_cases a
  · exact Fin.ext (by show 0 + 1 * (x 0).val = (x 0).val; omega)
  · exact Fin.ext (by show 0 + 1 * (x 1).val = (x 1).val; omega)

/-- So does the window of the router, -/
theorem X1_apply (x : S128x16.Idx) : X1 m ρ c x = m ((c.tc : Thread nD τ).loc main_arg1) x := by
  refine congrArg (m ((c.tc : Thread nD τ).loc main_arg1)) (funext fun a => ?_)
  fin_cases a
  · exact Fin.ext (by show 0 + 1 * (x 0).val = (x 0).val; omega)
  · exact Fin.ext (by show 0 + 1 * (x 1).val = (x 1).val; omega)

/-- that of the routes -/
theorem X2_apply (x : S256x2.Idx) : X2 m ρ c x = m ((c.tc : Thread nD τ).loc main_arg2) x := by
  refine congrArg (m ((c.tc : Thread nD τ).loc main_arg2)) (funext fun a => ?_)
  fin_cases a
  · exact Fin.ext (by show 0 + 1 * (x 0).val = (x 0).val; omega)
  · exact Fin.ext (by show 0 + 1 * (x 1).val = (x 1).val; omega)

/-- and that of the experts. -/
theorem X3_apply (x : S2x128x256.Idx) : X3 m ρ c x = m ((c.tc : Thread nD τ).loc main_arg3) x := by
  refine congrArg (m ((c.tc : Thread nD τ).loc main_arg3)) (funext fun a => ?_)
  fin_cases a
  · exact Fin.ext (by show 0 + 1 * (x 0).val = (x 0).val; omega)
  · exact Fin.ext (by show 0 + 1 * (x 1).val = (x 1).val; omega)
  · exact Fin.ext (by show 0 + 1 * (x 2).val = (x 2).val; omega)

/-- The first column loaded is the tokens' first experts, -/
theorem I0_apply (t : Fin 256) : I0 m ρ c (ix2 t 0) = X2 m ρ c (ix2 t 0) := by
  refine congrArg (X2 m ρ c) (funext fun a => ?_)
  fin_cases a
  · exact Fin.ext (by show 0 + 1 * t.val = t.val; omega)
  · exact Fin.ext (by show 0 + 1 * 0 = 0; omega)

/-- the second their second. -/
theorem I1_apply (t : Fin 256) : I1 m ρ c (ix2 t 0) = X2 m ρ c (ix2 t 1) := by
  refine congrArg (X2 m ρ c) (funext fun a => ?_)
  fin_cases a
  · exact Fin.ext (by show 0 + 1 * t.val = t.val; omega)
  · exact Fin.ext (by show 1 + 1 * 0 = 1; omega)

end Reads

/-- A device's number, as the kernel computes it, is its number. -/
theorem pw_eq (c : Dev nD) : pw c = BitVec.ofNat 32 c.val := by revert c; decide

/-! ## Which tokens a device sends -/

/-- Halving an expert's word gives the device that holds it. -/
theorem half_word (a : Fin 16) (c : Fin 8) : (BitVec.sdiv (BitVec.ofNat 32 a.val) 2#32 == BitVec.ofNat 32 c.val) = decide (a.val / 2 = c.val) := by
  revert a c; decide

/-! ## The sum of the shares -/

/-- The device whose number differs from `c`'s by the exclusive-or with `k`: `c` itself, then its seven peers. -/
def around (c : Dev nD) (k : Fin 8) : Dev nD := ⟨(c.val ^^^ k.val) % 8, Nat.mod_lt _ (by decide)⟩

/-- Every device is met once on the way around. -/
theorem around_bijective (c : Dev nD) : Function.Bijective (around c) :=
  Finite.injective_iff_bijective.1 (by
    intro j k
    revert c j k
    decide)

/-- A device and its seven peers are all eight devices. -/
theorem sum_peers (P : Dev nD → EReal) (c : Dev nD) :
    P c + P (px 0 c) + P (px 2 c) + P (px 3 c) + P (px 1 c) + P (px 4 c) + P (px 6 c) + P (px 5 c) = ∑ d : Fin 8, P d := by
  have h0 : around c 0 = c := by revert c; decide
  have hk : around c 1 = px 0 c ∧ around c 2 = px 1 c ∧ around c 3 = px 2 c ∧ around c 4 = px 3 c ∧ around c 5 = px 4 c
      ∧ around c 6 = px 5 c ∧ around c 7 = px 6 c := ⟨rfl, rfl, rfl, rfl, rfl, rfl, rfl⟩
  obtain ⟨h1, h2, h3, h4, h5, h6, h7⟩ := hk
  refine Eq.trans ?_ ((around_bijective c).sum_comp P)
  refine Eq.trans ?_ (Fin.sum_univ_eight fun k => P (around c k)).symm
  rw [h0, h1, h2, h3, h4, h5, h6, h7]
  ac_rfl

/-! ## The messages bring back the shares -/

section Shares
variable (m : (ℓ : Loc nD τ sig) → Buf (Elt Ideal) ℓ) (ρ : Dev nD → PrngReg)
variable {x : FVec Ideal S256x128 .bf16} {w : FVec Ideal S128x16 .bf16} {i : IVec S256x2 32} (e : FVec Ideal ⟨3, ![16, 128, 256]⟩ .bf16)

/-- The devices hold the program's arrays: the tokens, the router and the routes whole, the experts two each. -/
structure Holds : Prop where
  tokens : ∀ c : Dev nD, m ((c.tc : Thread nD τ).loc main_arg0) = x
  router : ∀ c : Dev nD, m ((c.tc : Thread nD τ).loc main_arg1) = w
  routes : ∀ c : Dev nD, m ((c.tc : Thread nD τ).loc main_arg2) = i
  experts : ∀ c : Dev nD, m ((c.tc : Thread nD τ).loc main_arg3) = Layout.block ⟨3, ![2, 128, 256]⟩ ⟨3, ![16, 128, 256]⟩ 0 8 c e

variable {m e} (H : Holds m (x := x) (w := w) (i := i) e) (fits : Fits x w i)
include H

/-- The tokens a device reads. -/
theorem X0_eq (c : Dev nD) : X0 m ρ c = x := funext fun y => (X0_apply m ρ c y).trans (congrFun (H.tokens c) y)
/-- The router weights it reads. -/
theorem X1_eq (c : Dev nD) : X1 m ρ c = w := funext fun y => (X1_apply m ρ c y).trans (congrFun (H.router c) y)
/-- The first experts it reads. -/
theorem I0_eq (c : Dev nD) (t : Fin 256) : I0 m ρ c (ix2 t 0) = i (ix2 t 0) :=
  (I0_apply m ρ c t).trans ((X2_apply m ρ c _).trans (congrFun (H.routes c) _))
/-- The second experts it reads. -/
theorem I1_eq (c : Dev nD) (t : Fin 256) : I1 m ρ c (ix2 t 0) = i (ix2 t 1) :=
  (I1_apply m ρ c t).trans ((X2_apply m ρ c _).trans (congrFun (H.routes c) _))

/-- Device `c`'s two experts are experts `2c` and `2c + 1`. -/
theorem X3_eq (c : Dev nD) (k : Fin 2) (d : Fin 128) (f : Fin 256) :
    X3 m ρ c (ix3 k d f) = e (ix3 ⟨c.val * 2 + k.val, by have := c.isLt; change c.val < 8 at this; omega⟩ d f) := by
  refine (X3_apply m ρ c _).trans ((congrFun (H.experts c) _).trans ?_)
  refine congrArg e (funext fun a => ?_)
  fin_cases a <;> rfl

/-- A device's share of one entry: what its two experts contribute. -/
theorem partA_apply (c : Dev nD) (t f : Fin 256) {a b : Fin 16} (ha : i (ix2 t 0) = BitVec.ofNat 32 a.val) (hb : i (ix2 t 1) = BitVec.ofNat 32 b.val) :
    partA m ρ c (ix2 t f)
      = contribution (fun d => x (ix2 t d)) (fun q d => e (ix3 q d f)) a b (weight x w t a a b) (weight x w t b a b)
          ⟨c.val * 2, by have := c.isLt; change c.val < 8 at this; omega⟩
        + contribution (fun d => x (ix2 t d)) (fun q d => e (ix3 q d f)) a b (weight x w t a a b) (weight x w t b a b)
          ⟨c.val * 2 + 1, by have := c.isLt; change c.val < 8 at this; omega⟩ := by
  unfold partA
  rw [pw_eq, X0_eq ρ H, X1_eq ρ H]
  exact partOf_apply x w t (c : Fin 8) ((I0_eq ρ H c t).trans ha) ((I1_eq ρ H c t).trans hb) (X3 m ρ c) (fun q d f => e (ix3 q d f)) f (fun k d => X3_eq ρ H c k d f)

/-- The tokens device `c` sends. -/
theorem flag_eq (c : Dev nD) (t : Fin 256) :
    flag (pw c) (I0 m ρ c) (I1 m ρ c) t
      = (IntOp.divsi .vector (i (ix2 t 0)) 2#32 == BitVec.ofNat 32 c.val || IntOp.divsi .vector (i (ix2 t 1)) 2#32 == BitVec.ofNat 32 c.val) := by
  unfold flag
  rw [pw_eq, I0_eq ρ H, I1_eq ρ H]

include fits

/-- A token device `c` does not send is one its experts contribute nothing to. -/
theorem partA_unsent (c : Dev nD) (t f : Fin 256) (h : ¬flag (pw c) (I0 m ρ c) (I1 m ρ c) t = true) : partA m ρ c (ix2 t f) = 0 := by
  obtain ⟨a, ha⟩ := fits.expert t 0
  obtain ⟨b, hb⟩ := fits.expert t 1
  rw [flag_eq ρ H, ha, hb, divsi_two, divsi_two, half_word a (c : Fin 8), half_word b (c : Fin 8)] at h
  simp only [Bool.or_eq_true, decide_eq_true_eq, not_or] at h
  have ne (p q : Fin 16) (hp : ¬p.val / 2 = c.val) (hq : q.val / 2 = c.val) : p ≠ q := fun hpq => hp (hpq ▸ hq)
  have e0 : c.val * 2 / 2 = c.val := by omega
  have e1 : (c.val * 2 + 1) / 2 = c.val := by omega
  rw [partA_apply ρ H c t f ha hb]
  exact (congrArg₂ (· + ·) (contribution_zero (ne a _ h.1 e0) (ne b _ h.2 e0)) (contribution_zero (ne a _ h.1 e1) (ne b _ h.2 e1))).trans (add_zero 0)

/-- What a receiver adds of device `c`'s message is device `c`'s share. -/
theorem received_share (c : Dev nD) (t f : Fin 256) : received (idsV m ρ c) (rowsV m ρ c) t f = partA m ρ c (ix2 t f) := by
  have hd (j : Fin 256) : idsV m ρ c (ix3 0 0 j) = slotId (flag (pw c) (I0 m ρ c) (I1 m ρ c)) j.val := by
    refine Eq.trans ?_ (idsOf_apply (pw c) (I0 m ρ c) (I1 m ρ c) j)
    exact congrArg (idsA m ρ c) (ix2_eq_valueIdx _ _).symm
  have hr (j : Fin 96) : rowsV m ρ c (ix3 0 j f) = slotVal (flag (pw c) (I0 m ρ c) (I1 m ρ c)) (fun t => partA m ρ c (ix2 t f)) j.val := by
    refine Eq.trans ?_ (rowsOf_apply (pw c) (X0 m ρ c) (X1 m ρ c) (I0 m ρ c) (I1 m ρ c) (X3 m ρ c) j f)
    exact congrArg (rowsA m ρ c) (ix2_eq_valueIdx _ _).symm
  unfold received
  simp only [hd, hr]
  rw [unpack]
  · split_ifs with h
    · rfl
    · exact (partA_unsent ρ H fits c t f h).symm
  · simp only [flag_eq ρ H]
    exact fits.count (c : Fin 8)

/-- What a device ends with: the eight shares added up. -/
theorem outAt_apply (c : Dev nD) (t f : Fin 256) : outAt m ρ c (ix2 t f) = ∑ d : Fin 8, partA m ρ d (ix2 t f) := by
  unfold outAt
  rw [pay22_apply, pay20_apply, pay19_apply, pay18_apply]
  simp only [received_share ρ H fits]
  exact sum_peers (fun d => partA m ρ d (ix2 t f)) c

omit H in
/-- A token's scores are finite. -/
theorem scores_real (t : Fin 256) (q : Fin 16) : ∃ r : ℝ, scores x w t q = r := by
  choose r hr using fits.x_real
  choose s hs using fits.w_real
  exact ⟨∑ d : Fin 128, r t d * s d q, by unfold scores; rw [coe_sum]; exact Finset.sum_congr rfl fun d _ => by rw [hr, hs, EReal.coe_mul]⟩

/-- Each device ends with the reference's result. -/
theorem outAt_eq (c : Dev nD) : outAt m ρ c = refOut x w i e := by
  funext y
  obtain ⟨t, f, rfl⟩ : ∃ t f : Fin 256, y = ix2 t f := ⟨y 0, y 1, by funext a; fin_cases a <;> rfl⟩
  obtain ⟨a, ha⟩ := fits.expert t 0
  obtain ⟨b, hb⟩ := fits.expert t 1
  have hp := softmax_pos (scores_real fits t)
  obtain ⟨α, hα, hα'⟩ := share_real (hp a) (hp b)
  obtain ⟨β, hβ, hβ'⟩ := share_real (hp b) (hp a)
  have hwa : weight x w t a a b = (α : EReal) := hα'
  have hwb : weight x w t b a b = (β : EReal) := by unfold weight; rw [add_comm]; exact hβ'
  rw [outAt_apply ρ H fits, refOut_apply x w e t ha hb f, hwa, hwb]
  simp only [partA_apply ρ H _ t f ha hb, hwa, hwb]
  refine (sum_pairs (contribution (fun d => x (ix2 t d)) (fun q d => e (ix3 q d f)) a b α β)).trans ?_
  exact contributions _ _ a b (EReal.coe_nonneg.2 hα) (EReal.coe_ne_top α) (EReal.coe_nonneg.2 hβ) (EReal.coe_ne_top β)

end Shares

/-- The kernel and the reference end with the same result. -/
theorem equation [Cert.Pre_within_capacity_KernelIdeal.Facts] : Cert.algebraic_KernelIdeal_ReferenceIdeal_pre_within_capacity_KernelIdeal := by
  intro m g m' g' hpre hm
  have H : Holds m (x := m' (((0 : Dev Cert.ReferenceIdeal.nD).tc : Thread Cert.ReferenceIdeal.nD Cert.ReferenceIdeal.τ).loc Cert.ReferenceIdeal.main_arg0))
      (w := m' (((0 : Dev Cert.ReferenceIdeal.nD).tc : Thread Cert.ReferenceIdeal.nD Cert.ReferenceIdeal.τ).loc Cert.ReferenceIdeal.main_arg1))
      (i := m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)) :=
    ⟨fun c => (hm c).1, fun c => (hm c).2.1, fun c => (hm c).2.2.1, fun c => (hm c).2.2.2⟩
  have h0 := hpre (0 : Dev nD)
  rw [H.tokens, H.router, H.routes] at h0
  have fits := fits_of_pre _ _ _ _ h0
  refine ⟨Cert.ReferenceIdeal.Value.res_main_v46 (F := Ideal) m' 0, ?_, ?_⟩
  · refine (θ_run defs _ _).mono (fun r h c => ⟨(h.1 c).1.trans ?_, (h.1 c).2⟩) (run_args (F := Ideal) m g)
    exact (outAt_eq g H fits c).trans (res_eq_refOut m' 0).symm
  · exact (θ_run Cert.ReferenceIdeal.defs _ _).mono (fun r h => h 0) (Cert.ReferenceIdeal.Value.run (F := Ideal) m' g')

end Cert.Moe
-- ==== Proof.lean ====
/-
  THE CERTIFICATE: the frames of the kernel, of its idealization and of the reference, that the idealization is the
  kernel's own text, and that under the precondition the kernel's result is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_within_capacity_KernelIdeal
public import proofs.«01_k».proof.Proof.Gen.Pre_within_capacity_ReferenceIdeal
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Everything the certificate claims. The frames under the precondition follow from those without it. -/
theorem claim : Cert.Claim := ⟨Cert.Kernel.Gen.facts, Cert.KernelIdeal.Gen.facts, Cert.ReferenceIdeal.Gen.facts, Cert.Pre_within_capacity_KernelIdeal.Gen.facts, Cert.Pre_within_capacity_ReferenceIdeal.Gen.facts,
  Cert.Moe.frame_kernel, Cert.Moe.frame_ideal, fun m g _ => Cert.Moe.frame_ideal m g trivial, Cert.Moe.frame_reference,
  fun m g _ => Cert.Moe.frame_reference m g trivial, trivial, @Cert.Moe.equation Cert.Pre_within_capacity_KernelIdeal.Gen.facts⟩

end Cert.Proof

end
